-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_RefFfn1Ideal (m : (ℓ : Loc Cert.RefFfn1Ideal.nD Cert.RefFfn1Ideal.τ Cert.RefFfn1Ideal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_RefFfn2Ideal (m : (ℓ : Loc Cert.RefFfn2Ideal.nD Cert.RefFfn2Ideal.τ Cert.RefFfn2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ r.2.sem = fun _ => 0)

def quiescent_RefFfn1Ideal [hRefFfn1Ideal : Cert.RefFfn1Ideal.Facts] : Prop :=
  ∀ (m : (ℓ : Loc Cert.RefFfn1Ideal.nD Cert.RefFfn1Ideal.τ Cert.RefFfn1Ideal.sig) → Buf (Elt Ideal) ℓ) (g : Dev Cert.RefFfn1Ideal.nD → PrngReg), Pre_RefFfn1Ideal m →
    θ_run (Cert.RefFfn1Ideal.defs (F := Ideal)) (onTc (τ := Cert.RefFfn1Ideal.τ) (Cert.RefFfn1Ideal.main (F := Ideal))) ⟨m, fun _ => 0, g⟩ (fun r => (∀ c : Dev Cert.RefFfn1Ideal.nD,
      r.2.mem ((c.tc : Thread Cert.RefFfn1Ideal.nD Cert.RefFfn1Ideal.τ).loc Cert.RefFfn1Ideal.main_arg0) = m ((c.tc : Thread Cert.RefFfn1Ideal.nD Cert.RefFfn1Ideal.τ).loc Cert.RefFfn1Ideal.main_arg0)
      ∧ r.2.mem ((c.tc : Thread Cert.RefFfn1Ideal.nD Cert.RefFfn1Ideal.τ).loc Cert.RefFfn1Ideal.main_arg1) = m ((c.tc : Thread Cert.RefFfn1Ideal.nD Cert.RefFfn1Ideal.τ).loc Cert.RefFfn1Ideal.main_arg1)
      ∧ r.2.mem ((c.tc : Thread Cert.RefFfn1Ideal.nD Cert.RefFfn1Ideal.τ).loc Cert.RefFfn1Ideal.main_arg2) = m ((c.tc : Thread Cert.RefFfn1Ideal.nD Cert.RefFfn1Ideal.τ).loc Cert.RefFfn1Ideal.main_arg2)
      ∧ r.2.mem ((c.tc : Thread Cert.RefFfn1Ideal.nD Cert.RefFfn1Ideal.τ).loc Cert.RefFfn1Ideal.main_arg3) = m ((c.tc : Thread Cert.RefFfn1Ideal.nD Cert.RefFfn1Ideal.τ).loc Cert.RefFfn1Ideal.main_arg3)
      ∧ r.2.mem ((c.tc : Thread Cert.RefFfn1Ideal.nD Cert.RefFfn1Ideal.τ).loc Cert.RefFfn1Ideal.main_arg4) = m ((c.tc : Thread Cert.RefFfn1Ideal.nD Cert.RefFfn1Ideal.τ).loc Cert.RefFfn1Ideal.main_arg4)
      ∧ r.2.mem ((c.tc : Thread Cert.RefFfn1Ideal.nD Cert.RefFfn1Ideal.τ).loc Cert.RefFfn1Ideal.main_arg5) = m ((c.tc : Thread Cert.RefFfn1Ideal.nD Cert.RefFfn1Ideal.τ).loc Cert.RefFfn1Ideal.main_arg5))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5)
      ∧ r.2.mem ((c.tc : Thread Cert.Ffn2.nD Cert.Ffn2.τ).loc Cert.Ffn2.main_arg6) = m ((c.tc : Thread Cert.Ffn2.nD Cert.Ffn2.τ).loc Cert.Ffn2.main_arg6)
      ∧ r.2.mem ((c.tc : Thread Cert.Ffn2.nD Cert.Ffn2.τ).loc Cert.Ffn2.main_arg7) = m ((c.tc : Thread Cert.Ffn2.nD Cert.Ffn2.τ).loc Cert.Ffn2.main_arg7)
      ∧ r.2.mem ((c.tc : Thread Cert.Ffn2.nD Cert.Ffn2.τ).loc Cert.Ffn2.main_arg8) = m ((c.tc : Thread Cert.Ffn2.nD Cert.Ffn2.τ).loc Cert.Ffn2.main_arg8))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
      ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6)
      ∧ r.2.mem ((c.tc : Thread Cert.Ffn2Ideal.nD Cert.Ffn2Ideal.τ).loc Cert.Ffn2Ideal.main_arg7) = m ((c.tc : Thread Cert.Ffn2Ideal.nD Cert.Ffn2Ideal.τ).loc Cert.Ffn2Ideal.main_arg7)
      ∧ r.2.mem ((c.tc : Thread Cert.Ffn2Ideal.nD Cert.Ffn2Ideal.τ).loc Cert.Ffn2Ideal.main_arg8) = m ((c.tc : Thread Cert.Ffn2Ideal.nD Cert.Ffn2Ideal.τ).loc Cert.Ffn2Ideal.main_arg8))
      ∧ r.2.sem = fun _ => 0)

def quiescent_RefFfn2Ideal [hRefFfn2Ideal : Cert.RefFfn2Ideal.Facts] : Prop :=
  ∀ (m : (ℓ : Loc Cert.RefFfn2Ideal.nD Cert.RefFfn2Ideal.τ Cert.RefFfn2Ideal.sig) → Buf (Elt Ideal) ℓ) (g : Dev Cert.RefFfn2Ideal.nD → PrngReg), Pre_RefFfn2Ideal m →
    θ_run (Cert.RefFfn2Ideal.defs (F := Ideal)) (onTc (τ := Cert.RefFfn2Ideal.τ) (Cert.RefFfn2Ideal.main (F := Ideal))) ⟨m, fun _ => 0, g⟩ (fun r => (∀ c : Dev Cert.RefFfn2Ideal.nD,
      r.2.mem ((c.tc : Thread Cert.RefFfn2Ideal.nD Cert.RefFfn2Ideal.τ).loc Cert.RefFfn2Ideal.main_arg0) = m ((c.tc : Thread Cert.RefFfn2Ideal.nD Cert.RefFfn2Ideal.τ).loc Cert.RefFfn2Ideal.main_arg0)
      ∧ r.2.mem ((c.tc : Thread Cert.RefFfn2Ideal.nD Cert.RefFfn2Ideal.τ).loc Cert.RefFfn2Ideal.main_arg1) = m ((c.tc : Thread Cert.RefFfn2Ideal.nD Cert.RefFfn2Ideal.τ).loc Cert.RefFfn2Ideal.main_arg1)
      ∧ r.2.mem ((c.tc : Thread Cert.RefFfn2Ideal.nD Cert.RefFfn2Ideal.τ).loc Cert.RefFfn2Ideal.main_arg2) = m ((c.tc : Thread Cert.RefFfn2Ideal.nD Cert.RefFfn2Ideal.τ).loc Cert.RefFfn2Ideal.main_arg2)
      ∧ r.2.mem ((c.tc : Thread Cert.RefFfn2Ideal.nD Cert.RefFfn2Ideal.τ).loc Cert.RefFfn2Ideal.main_arg3) = m ((c.tc : Thread Cert.RefFfn2Ideal.nD Cert.RefFfn2Ideal.τ).loc Cert.RefFfn2Ideal.main_arg3)
      ∧ r.2.mem ((c.tc : Thread Cert.RefFfn2Ideal.nD Cert.RefFfn2Ideal.τ).loc Cert.RefFfn2Ideal.main_arg4) = m ((c.tc : Thread Cert.RefFfn2Ideal.nD Cert.RefFfn2Ideal.τ).loc Cert.RefFfn2Ideal.main_arg4)
      ∧ r.2.mem ((c.tc : Thread Cert.RefFfn2Ideal.nD Cert.RefFfn2Ideal.τ).loc Cert.RefFfn2Ideal.main_arg5) = m ((c.tc : Thread Cert.RefFfn2Ideal.nD Cert.RefFfn2Ideal.τ).loc Cert.RefFfn2Ideal.main_arg5)
      ∧ r.2.mem ((c.tc : Thread Cert.RefFfn2Ideal.nD Cert.RefFfn2Ideal.τ).loc Cert.RefFfn2Ideal.main_arg6) = m ((c.tc : Thread Cert.RefFfn2Ideal.nD Cert.RefFfn2Ideal.τ).loc Cert.RefFfn2Ideal.main_arg6)
      ∧ r.2.mem ((c.tc : Thread Cert.RefFfn2Ideal.nD Cert.RefFfn2Ideal.τ).loc Cert.RefFfn2Ideal.main_arg7) = m ((c.tc : Thread Cert.RefFfn2Ideal.nD Cert.RefFfn2Ideal.τ).loc Cert.RefFfn2Ideal.main_arg7)
      ∧ r.2.mem ((c.tc : Thread Cert.RefFfn2Ideal.nD Cert.RefFfn2Ideal.τ).loc Cert.RefFfn2Ideal.main_arg8) = m ((c.tc : Thread Cert.RefFfn2Ideal.nD Cert.RefFfn2Ideal.τ).loc Cert.RefFfn2Ideal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_on_head_rows [hKernelIdeal : Cert.KernelIdeal.Facts] [hReferenceIdeal : Cert.ReferenceIdeal.Facts] [hOn_head_rows : Cert.On_head_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![32, 64, 512]⟩ : Shape).Idx, (Cert.On_head_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v5_0) i = v0 c i)
          ∧ (∀ i : (⟨4, ![32, 4, 128, 128]⟩ : Shape).Idx, (Cert.On_head_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v5_1) i = v1 c i)
          ∧ (∀ i : (⟨3, ![32, 8, 128]⟩ : Shape).Idx, (Cert.On_head_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v5_2) i = v2 c i)
          ∧ (∀ i : (⟨3, ![32, 8, 128]⟩ : Shape).Idx, (Cert.On_head_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.KernelIdeal.nD Cert.KernelIdeal.τ).loc Cert.KernelIdeal.main_v5_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![32, 64, 512]⟩ : Shape).Idx, (Cert.On_head_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v111) i = v0 c i)
          ∧ (∀ i : (⟨4, ![32, 4, 128, 128]⟩ : Shape).Idx, (Cert.On_head_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v79) i = v1 c i)
          ∧ (∀ i : (⟨3, ![32, 8, 128]⟩ : Shape).Idx, (Cert.On_head_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v100) i = v2 c i)
          ∧ (∀ i : (⟨3, ![32, 8, 128]⟩ : Shape).Idx, (Cert.On_head_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.ReferenceIdeal.nD Cert.ReferenceIdeal.τ).loc Cert.ReferenceIdeal.main_v103) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Ffn1_Ffn1Ideal : Prop :=
  IdealRules.shift_out.By16TwiceStatement Cert.Ffn1Ideal.S8x128

def algebraic_Ffn1Ideal_RefFfn1Ideal [hFfn1Ideal : Cert.Ffn1Ideal.Facts] [hRefFfn1Ideal : Cert.RefFfn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.RefFfn1Ideal.nD Cert.RefFfn1Ideal.τ Cert.RefFfn1Ideal.sig) → Buf (Elt Ideal) ℓ) (g' : Dev Cert.RefFfn1Ideal.nD → PrngReg), Pre_Ffn1Ideal m →
    (∀ c : Dev Cert.Ffn1Ideal.nD,
      m' ((c.tc : Thread Cert.RefFfn1Ideal.nD Cert.RefFfn1Ideal.τ).loc Cert.RefFfn1Ideal.main_arg0) = m ((c.tc : Thread Cert.Ffn1Ideal.nD Cert.Ffn1Ideal.τ).loc Cert.Ffn1Ideal.main_arg0)
      ∧ m' ((c.tc : Thread Cert.RefFfn1Ideal.nD Cert.RefFfn1Ideal.τ).loc Cert.RefFfn1Ideal.main_arg1) = m ((c.tc : Thread Cert.Ffn1Ideal.nD Cert.Ffn1Ideal.τ).loc Cert.Ffn1Ideal.main_arg1)
      ∧ m' ((c.tc : Thread Cert.RefFfn1Ideal.nD Cert.RefFfn1Ideal.τ).loc Cert.RefFfn1Ideal.main_arg2) = m ((c.tc : Thread Cert.Ffn1Ideal.nD Cert.Ffn1Ideal.τ).loc Cert.Ffn1Ideal.main_arg2)
      ∧ m' ((c.tc : Thread Cert.RefFfn1Ideal.nD Cert.RefFfn1Ideal.τ).loc Cert.RefFfn1Ideal.main_arg3) = m ((c.tc : Thread Cert.Ffn1Ideal.nD Cert.Ffn1Ideal.τ).loc Cert.Ffn1Ideal.main_arg3)
      ∧ m' ((c.tc : Thread Cert.RefFfn1Ideal.nD Cert.RefFfn1Ideal.τ).loc Cert.RefFfn1Ideal.main_arg4) = m ((c.tc : Thread Cert.Ffn1Ideal.nD Cert.Ffn1Ideal.τ).loc Cert.Ffn1Ideal.main_arg4)
      ∧ m' ((c.tc : Thread Cert.RefFfn1Ideal.nD Cert.RefFfn1Ideal.τ).loc Cert.RefFfn1Ideal.main_arg5) = m ((c.tc : Thread Cert.Ffn1Ideal.nD Cert.Ffn1Ideal.τ).loc Cert.Ffn1Ideal.main_arg5)) →
    ∃ (v0 : (c : Dev Cert.Ffn1Ideal.nD) → Buf (Elt Ideal) ((c.tc : Thread Cert.Ffn1Ideal.nD Cert.Ffn1Ideal.τ).loc Cert.Ffn1Ideal.main_v4)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v4) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ θ_run (Cert.RefFfn1Ideal.defs (F := Ideal)) (onTc (τ := Cert.RefFfn1Ideal.τ) (Cert.RefFfn1Ideal.main (F := Ideal))) ⟨m', fun _ => 0, g'⟩ (fun r => ∀ c : Dev Cert.RefFfn1Ideal.nD,
          r.2.mem ((c.tc : Thread Cert.RefFfn1Ideal.nD Cert.RefFfn1Ideal.τ).loc Cert.RefFfn1Ideal.main_v32) = v0 c
          ∧ r.2.mem ((c.tc : Thread Cert.RefFfn1Ideal.nD Cert.RefFfn1Ideal.τ).loc Cert.RefFfn1Ideal.main_arg0) = m' ((c.tc : Thread Cert.RefFfn1Ideal.nD Cert.RefFfn1Ideal.τ).loc Cert.RefFfn1Ideal.main_arg0)
          ∧ r.2.mem ((c.tc : Thread Cert.RefFfn1Ideal.nD Cert.RefFfn1Ideal.τ).loc Cert.RefFfn1Ideal.main_arg1) = m' ((c.tc : Thread Cert.RefFfn1Ideal.nD Cert.RefFfn1Ideal.τ).loc Cert.RefFfn1Ideal.main_arg1)
          ∧ r.2.mem ((c.tc : Thread Cert.RefFfn1Ideal.nD Cert.RefFfn1Ideal.τ).loc Cert.RefFfn1Ideal.main_arg2) = m' ((c.tc : Thread Cert.RefFfn1Ideal.nD Cert.RefFfn1Ideal.τ).loc Cert.RefFfn1Ideal.main_arg2)
          ∧ r.2.mem ((c.tc : Thread Cert.RefFfn1Ideal.nD Cert.RefFfn1Ideal.τ).loc Cert.RefFfn1Ideal.main_arg3) = m' ((c.tc : Thread Cert.RefFfn1Ideal.nD Cert.RefFfn1Ideal.τ).loc Cert.RefFfn1Ideal.main_arg3)
          ∧ r.2.mem ((c.tc : Thread Cert.RefFfn1Ideal.nD Cert.RefFfn1Ideal.τ).loc Cert.RefFfn1Ideal.main_arg4) = m' ((c.tc : Thread Cert.RefFfn1Ideal.nD Cert.RefFfn1Ideal.τ).loc Cert.RefFfn1Ideal.main_arg4)
          ∧ r.2.mem ((c.tc : Thread Cert.RefFfn1Ideal.nD Cert.RefFfn1Ideal.τ).loc Cert.RefFfn1Ideal.main_arg5) = m' ((c.tc : Thread Cert.RefFfn1Ideal.nD Cert.RefFfn1Ideal.τ).loc Cert.RefFfn1Ideal.main_arg5))

def preserves_Ffn2_Ffn2Ideal : Prop :=
  IdealRules.shift_out.By16TwiceStatement Cert.Ffn2Ideal.S8x128

def algebraic_Ffn2Ideal_RefFfn2Ideal [hFfn2Ideal : Cert.Ffn2Ideal.Facts] [hRefFfn2Ideal : Cert.RefFfn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.RefFfn2Ideal.nD Cert.RefFfn2Ideal.τ Cert.RefFfn2Ideal.sig) → Buf (Elt Ideal) ℓ) (g' : Dev Cert.RefFfn2Ideal.nD → PrngReg), Pre_Ffn2Ideal m →
    (∀ c : Dev Cert.Ffn2Ideal.nD,
      m' ((c.tc : Thread Cert.RefFfn2Ideal.nD Cert.RefFfn2Ideal.τ).loc Cert.RefFfn2Ideal.main_arg0) = m ((c.tc : Thread Cert.Ffn2Ideal.nD Cert.Ffn2Ideal.τ).loc Cert.Ffn2Ideal.main_arg0)
      ∧ m' ((c.tc : Thread Cert.RefFfn2Ideal.nD Cert.RefFfn2Ideal.τ).loc Cert.RefFfn2Ideal.main_arg1) = m ((c.tc : Thread Cert.Ffn2Ideal.nD Cert.Ffn2Ideal.τ).loc Cert.Ffn2Ideal.main_arg1)
      ∧ m' ((c.tc : Thread Cert.RefFfn2Ideal.nD Cert.RefFfn2Ideal.τ).loc Cert.RefFfn2Ideal.main_arg2) = m ((c.tc : Thread Cert.Ffn2Ideal.nD Cert.Ffn2Ideal.τ).loc Cert.Ffn2Ideal.main_arg2)
      ∧ m' ((c.tc : Thread Cert.RefFfn2Ideal.nD Cert.RefFfn2Ideal.τ).loc Cert.RefFfn2Ideal.main_arg3) = m ((c.tc : Thread Cert.Ffn2Ideal.nD Cert.Ffn2Ideal.τ).loc Cert.Ffn2Ideal.main_arg3)
      ∧ m' ((c.tc : Thread Cert.RefFfn2Ideal.nD Cert.RefFfn2Ideal.τ).loc Cert.RefFfn2Ideal.main_arg4) = m ((c.tc : Thread Cert.Ffn2Ideal.nD Cert.Ffn2Ideal.τ).loc Cert.Ffn2Ideal.main_arg4)
      ∧ m' ((c.tc : Thread Cert.RefFfn2Ideal.nD Cert.RefFfn2Ideal.τ).loc Cert.RefFfn2Ideal.main_arg5) = m ((c.tc : Thread Cert.Ffn2Ideal.nD Cert.Ffn2Ideal.τ).loc Cert.Ffn2Ideal.main_arg5)
      ∧ m' ((c.tc : Thread Cert.RefFfn2Ideal.nD Cert.RefFfn2Ideal.τ).loc Cert.RefFfn2Ideal.main_arg6) = m ((c.tc : Thread Cert.Ffn2Ideal.nD Cert.Ffn2Ideal.τ).loc Cert.Ffn2Ideal.main_arg6)
      ∧ m' ((c.tc : Thread Cert.RefFfn2Ideal.nD Cert.RefFfn2Ideal.τ).loc Cert.RefFfn2Ideal.main_arg7) = m ((c.tc : Thread Cert.Ffn2Ideal.nD Cert.Ffn2Ideal.τ).loc Cert.Ffn2Ideal.main_arg7)
      ∧ m' ((c.tc : Thread Cert.RefFfn2Ideal.nD Cert.RefFfn2Ideal.τ).loc Cert.RefFfn2Ideal.main_arg8) = m ((c.tc : Thread Cert.Ffn2Ideal.nD Cert.Ffn2Ideal.τ).loc Cert.Ffn2Ideal.main_arg8)) →
    ∃ (v0 : (c : Dev Cert.Ffn2Ideal.nD) → Buf (Elt Ideal) ((c.tc : Thread Cert.Ffn2Ideal.nD Cert.Ffn2Ideal.τ).loc Cert.Ffn2Ideal.main_v5)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v5) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
          ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6)
          ∧ r.2.mem ((c.tc : Thread Cert.Ffn2Ideal.nD Cert.Ffn2Ideal.τ).loc Cert.Ffn2Ideal.main_arg7) = m ((c.tc : Thread Cert.Ffn2Ideal.nD Cert.Ffn2Ideal.τ).loc Cert.Ffn2Ideal.main_arg7)
          ∧ r.2.mem ((c.tc : Thread Cert.Ffn2Ideal.nD Cert.Ffn2Ideal.τ).loc Cert.Ffn2Ideal.main_arg8) = m ((c.tc : Thread Cert.Ffn2Ideal.nD Cert.Ffn2Ideal.τ).loc Cert.Ffn2Ideal.main_arg8))
      ∧ θ_run (Cert.RefFfn2Ideal.defs (F := Ideal)) (onTc (τ := Cert.RefFfn2Ideal.τ) (Cert.RefFfn2Ideal.main (F := Ideal))) ⟨m', fun _ => 0, g'⟩ (fun r => ∀ c : Dev Cert.RefFfn2Ideal.nD,
          r.2.mem ((c.tc : Thread Cert.RefFfn2Ideal.nD Cert.RefFfn2Ideal.τ).loc Cert.RefFfn2Ideal.main_v53) = v0 c
          ∧ r.2.mem ((c.tc : Thread Cert.RefFfn2Ideal.nD Cert.RefFfn2Ideal.τ).loc Cert.RefFfn2Ideal.main_arg0) = m' ((c.tc : Thread Cert.RefFfn2Ideal.nD Cert.RefFfn2Ideal.τ).loc Cert.RefFfn2Ideal.main_arg0)
          ∧ r.2.mem ((c.tc : Thread Cert.RefFfn2Ideal.nD Cert.RefFfn2Ideal.τ).loc Cert.RefFfn2Ideal.main_arg1) = m' ((c.tc : Thread Cert.RefFfn2Ideal.nD Cert.RefFfn2Ideal.τ).loc Cert.RefFfn2Ideal.main_arg1)
          ∧ r.2.mem ((c.tc : Thread Cert.RefFfn2Ideal.nD Cert.RefFfn2Ideal.τ).loc Cert.RefFfn2Ideal.main_arg2) = m' ((c.tc : Thread Cert.RefFfn2Ideal.nD Cert.RefFfn2Ideal.τ).loc Cert.RefFfn2Ideal.main_arg2)
          ∧ r.2.mem ((c.tc : Thread Cert.RefFfn2Ideal.nD Cert.RefFfn2Ideal.τ).loc Cert.RefFfn2Ideal.main_arg3) = m' ((c.tc : Thread Cert.RefFfn2Ideal.nD Cert.RefFfn2Ideal.τ).loc Cert.RefFfn2Ideal.main_arg3)
          ∧ r.2.mem ((c.tc : Thread Cert.RefFfn2Ideal.nD Cert.RefFfn2Ideal.τ).loc Cert.RefFfn2Ideal.main_arg4) = m' ((c.tc : Thread Cert.RefFfn2Ideal.nD Cert.RefFfn2Ideal.τ).loc Cert.RefFfn2Ideal.main_arg4)
          ∧ r.2.mem ((c.tc : Thread Cert.RefFfn2Ideal.nD Cert.RefFfn2Ideal.τ).loc Cert.RefFfn2Ideal.main_arg5) = m' ((c.tc : Thread Cert.RefFfn2Ideal.nD Cert.RefFfn2Ideal.τ).loc Cert.RefFfn2Ideal.main_arg5)
          ∧ r.2.mem ((c.tc : Thread Cert.RefFfn2Ideal.nD Cert.RefFfn2Ideal.τ).loc Cert.RefFfn2Ideal.main_arg6) = m' ((c.tc : Thread Cert.RefFfn2Ideal.nD Cert.RefFfn2Ideal.τ).loc Cert.RefFfn2Ideal.main_arg6)
          ∧ r.2.mem ((c.tc : Thread Cert.RefFfn2Ideal.nD Cert.RefFfn2Ideal.τ).loc Cert.RefFfn2Ideal.main_arg7) = m' ((c.tc : Thread Cert.RefFfn2Ideal.nD Cert.RefFfn2Ideal.τ).loc Cert.RefFfn2Ideal.main_arg7)
          ∧ r.2.mem ((c.tc : Thread Cert.RefFfn2Ideal.nD Cert.RefFfn2Ideal.τ).loc Cert.RefFfn2Ideal.main_arg8) = m' ((c.tc : Thread Cert.RefFfn2Ideal.nD Cert.RefFfn2Ideal.τ).loc Cert.RefFfn2Ideal.main_arg8))

def Claim : Prop :=
  ∃ (hKernel : Cert.Kernel.Facts) (hKernelIdeal : Cert.KernelIdeal.Facts) (hReferenceIdeal : Cert.ReferenceIdeal.Facts) (hFfn1 : Cert.Ffn1.Facts) (hFfn1Ideal : Cert.Ffn1Ideal.Facts) (hRefFfn1Ideal : Cert.RefFfn1Ideal.Facts) (hFfn2 : Cert.Ffn2.Facts) (hFfn2Ideal : Cert.Ffn2Ideal.Facts) (hRefFfn2Ideal : Cert.RefFfn2Ideal.Facts) (hOn_head_rows : Cert.On_head_rows.Facts),
    quiescent_Kernel (hKernel := hKernel)
    ∧ quiescent_KernelIdeal (hKernelIdeal := hKernelIdeal)
    ∧ quiescent_ReferenceIdeal (hReferenceIdeal := hReferenceIdeal)
    ∧ quiescent_Ffn1 (hFfn1 := hFfn1)
    ∧ quiescent_Ffn1Ideal (hFfn1Ideal := hFfn1Ideal)
    ∧ quiescent_RefFfn1Ideal (hRefFfn1Ideal := hRefFfn1Ideal)
    ∧ quiescent_Ffn2 (hFfn2 := hFfn2)
    ∧ quiescent_Ffn2Ideal (hFfn2Ideal := hFfn2Ideal)
    ∧ quiescent_RefFfn2Ideal (hRefFfn2Ideal := hRefFfn2Ideal)
    ∧ preserves_Kernel_KernelIdeal
    ∧ algebraic_KernelIdeal_ReferenceIdeal_on_head_rows (hKernelIdeal := hKernelIdeal) (hReferenceIdeal := hReferenceIdeal) (hOn_head_rows := hOn_head_rows)
    ∧ preserves_Ffn1_Ffn1Ideal
    ∧ algebraic_Ffn1Ideal_RefFfn1Ideal (hFfn1Ideal := hFfn1Ideal) (hRefFfn1Ideal := hRefFfn1Ideal)
    ∧ preserves_Ffn2_Ffn2Ideal
    ∧ algebraic_Ffn2Ideal_RefFfn2Ideal (hFfn2Ideal := hFfn2Ideal) (hRefFfn2Ideal := hRefFfn2Ideal)
-- ==== On_head_rows.lean ====
abbrev S32x64x512 : Shape := ⟨3, ![32, 64, 512]⟩
abbrev S32x64x128 : Shape := ⟨3, ![32, 64, 128]⟩
abbrev S32x4x128x128 : Shape := ⟨4, ![32, 4, 128, 128]⟩
abbrev S32x4x128 : Shape := ⟨3, ![32, 4, 128]⟩
abbrev S32x4 : Shape := ⟨2, ![32, 4]⟩
abbrev S512 : Shape := ⟨1, ![512]⟩
abbrev S_ : Shape := ⟨0, ![]⟩
abbrev S32x8x128 : Shape := ⟨3, ![32, 8, 128]⟩

class Facts : Prop where
  bcast_S_S32x64x512 : S_.BroadcastsInDim S32x64x512 (![] : Fin 0 → Fin S32x64x512.rank)
  bcast_S_S32x4x128x128 : S_.BroadcastsInDim S32x4x128x128 (![] : Fin 0 → Fin S32x4x128x128.rank)
  bcast_S_S32x8x128 : S_.BroadcastsInDim S32x8x128 (![] : Fin 0 → Fin S32x8x128.rank)

variable [Facts]

def fn {F : FTy → Type} [FloatOps F] (main_arg0 : FVec F S32x64x512 .bf16) (main_arg1 : FVec F S32x64x512 .bf16) (main_arg2 : FVec F S32x64x512 .bf16) (main_arg3 : FVec F S32x64x128 .f32) (main_arg4 : FVec F S32x64x512 .f32) (main_arg5 : FVec F S32x4x128x128 .f32) (main_arg6 : FVec F S32x4x128 .f32) (main_arg7 : FVec F S32x4 .f32) (main_arg8 : FVec F S512 .f32) : IVec S32x64x512 1 × IVec S32x4x128x128 1 × IVec S32x8x128 1 × IVec S32x8x128 1 :=
  let main_c : IVec S_ 1 := constantI S_ 1 1#1
  let main_v0 : IVec S32x64x512 1 := broadcastInDim S32x64x512 ![] bcast_S_S32x64x512 main_c
  let main_c_0 : IVec S_ 1 := constantI S_ 1 1#1
  let main_v1 : IVec S32x4x128x128 1 := broadcastInDim S32x4x128x128 ![] bcast_S_S32x4x128x128 main_c_0
  let main_v2 : IVec S32x8x128 32 := iotaInDim S32x8x128 32 1
  let main_c_1 : IVec S_ 32 := constantI S_ 32 4#32
  let main_v3 : IVec S32x8x128 32 := broadcastInDim S32x8x128 ![] bcast_S_S32x8x128 main_c_1
  let main_v4 : IVec S32x8x128 1 := cmpi .slt main_v2 main_v3
  let main_v5 : IVec S32x8x128 32 := iotaInDim S32x8x128 32 1
  let main_c_2 : IVec S_ 32 := constantI S_ 32 4#32
  let main_v6 : IVec S32x8x128 32 := broadcastInDim S32x8x128 ![] bcast_S_S32x8x128 main_c_2
  let main_v7 : IVec S32x8x128 1 := cmpi .slt main_v5 main_v6
  (main_v0, main_v1, main_v4, main_v7)
-- ==== Kernel.lean ====
abbrev S32x64x512 : Shape := ⟨3, ![32, 64, 512]⟩
abbrev S32x64x128 : Shape := ⟨3, ![32, 64, 128]⟩
abbrev S32x4x128x128 : Shape := ⟨4, ![32, 4, 128, 128]⟩
abbrev S32x4x128 : Shape := ⟨3, ![32, 4, 128]⟩
abbrev S32x4 : Shape := ⟨2, ![32, 4]⟩
abbrev S512 : Shape := ⟨1, ![512]⟩
abbrev S_ : Shape := ⟨0, ![]⟩
abbrev S32x8x128 : Shape := ⟨3, ![32, 8, 128]⟩
abbrev S32x8 : Shape := ⟨2, ![32, 8]⟩
abbrev S32x8x1 : Shape := ⟨3, ![32, 8, 1]⟩
abbrev S1x512 : Shape := ⟨2, ![1, 512]⟩
abbrev S4x64x512 : Shape := ⟨3, ![4, 64, 512]⟩
abbrev S4x64x128 : Shape := ⟨3, ![4, 64, 128]⟩
abbrev S4x4x128x128 : Shape := ⟨4, ![4, 4, 128, 128]⟩
abbrev S4x8x128 : Shape := ⟨3, ![4, 8, 128]⟩
abbrev S64x64 : Shape := ⟨2, ![64, 64]⟩
abbrev S8x1 : Shape := ⟨2, ![8, 1]⟩
abbrev S1x64x128 : Shape := ⟨3, ![1, 64, 128]⟩
abbrev S64x128 : Shape := ⟨2, ![64, 128]⟩
abbrev S128x64 : Shape := ⟨2, ![128, 64]⟩
abbrev S8x64 : Shape := ⟨2, ![8, 64]⟩
abbrev S120x64 : Shape := ⟨2, ![120, 64]⟩
abbrev S64x1 : Shape := ⟨2, ![64, 1]⟩
abbrev S64 : Shape := ⟨1, ![64]⟩
abbrev S1x64 : Shape := ⟨2, ![1, 64]⟩
abbrev S4x64 : Shape := ⟨2, ![4, 64]⟩
abbrev S1x8x128 : Shape := ⟨3, ![1, 8, 128]⟩
abbrev S8x128 : Shape := ⟨2, ![8, 128]⟩
abbrev S8 : Shape := ⟨1, ![8]⟩
abbrev S1x1x128x128 : Shape := ⟨4, ![1, 1, 128, 128]⟩
abbrev S128x128 : Shape := ⟨2, ![128, 128]⟩
abbrev S1x128 : Shape := ⟨2, ![1, 128]⟩
abbrev S1x1 : Shape := ⟨2, ![1, 1]⟩

abbrev nBuf : Space → Nat
  | .hbm => 22
  | .vmem => 26
  | .smem => 0
  | _ => 0

abbrev bufTy : (tb : Table) → Fin (tcTables nBuf tb) → BufTy
  | .hbm, ⟨0, _⟩ => ⟨S32x64x512, .bf16⟩
  | .hbm, ⟨1, _⟩ => ⟨S32x64x512, .bf16⟩
  | .hbm, ⟨2, _⟩ => ⟨S32x64x512, .bf16⟩
  | .hbm, ⟨3, _⟩ => ⟨S32x64x128, .f32⟩
  | .hbm, ⟨4, _⟩ => ⟨S32x64x512, .f32⟩
  | .hbm, ⟨5, _⟩ => ⟨S32x4x128x128, .f32⟩
  | .hbm, ⟨6, _⟩ => ⟨S32x4x128, .f32⟩
  | .hbm, ⟨7, _⟩ => ⟨S32x4, .f32⟩
  | .hbm, ⟨8, _⟩ => ⟨S512, .f32⟩
  | .hbm, ⟨9, _⟩ => ⟨S_, .i32⟩
  | .hbm, ⟨10, _⟩ => ⟨S_, .f32⟩
  | .hbm, ⟨11, _⟩ => ⟨S32x8x128, .f32⟩
  | .hbm, ⟨12, _⟩ => ⟨S_, .i32⟩
  | .hbm, ⟨13, _⟩ => ⟨S_, .f32⟩
  | .hbm, ⟨14, _⟩ => ⟨S32x8, .f32⟩
  | .hbm, ⟨15, _⟩ => ⟨S32x8x1, .f32⟩
  | .hbm, ⟨16, _⟩ => ⟨S32x8x128, .f32⟩
  | .hbm, ⟨17, _⟩ => ⟨S1x512, .f32⟩
  | .hbm, ⟨18, _⟩ => ⟨S32x64x512, .bf16⟩
  | .hbm, ⟨19, _⟩ => ⟨S32x4x128x128, .f32⟩
  | .hbm, ⟨20, _⟩ => ⟨S32x8x128, .f32⟩
  | .hbm, ⟨21, _⟩ => ⟨S32x8x128, .f32⟩
  | .local _ .vmem, ⟨0, _⟩ => ⟨S4x64x512, .bf16⟩
  | .local _ .vmem, ⟨1, _⟩ => ⟨S4x64x512, .bf16⟩
  | .local _ .vmem, ⟨2, _⟩ => ⟨S4x64x512, .bf16⟩
  | .local _ .vmem, ⟨3, _⟩ => ⟨S4x64x512, .bf16⟩
  | .local _ .vmem, ⟨4, _⟩ => ⟨S4x64x512, .bf16⟩
  | .local _ .vmem, ⟨5, _⟩ => ⟨S4x64x512, .bf16⟩
  | .local _ .vmem, ⟨6, _⟩ => ⟨S4x64x128, .f32⟩
  | .local _ .vmem, ⟨7, _⟩ => ⟨S4x64x128, .f32⟩
  | .local _ .vmem, ⟨8, _⟩ => ⟨S4x64x512, .f32⟩
  | .local _ .vmem, ⟨9, _⟩ => ⟨S4x64x512, .f32⟩
  | .local _ .vmem, ⟨10, _⟩ => ⟨S4x4x128x128, .f32⟩
  | .local _ .vmem, ⟨11, _⟩ => ⟨S4x4x128x128, .f32⟩
  | .local _ .vmem, ⟨12, _⟩ => ⟨S4x8x128, .f32⟩
  | .local _ .vmem, ⟨13, _⟩ => ⟨S4x8x128, .f32⟩
  | .local _ .vmem, ⟨14, _⟩ => ⟨S4x8x128, .f32⟩
  | .local _ .vmem, ⟨15, _⟩ => ⟨S4x8x128, .f32⟩
  | .local _ .vmem, ⟨16, _⟩ => ⟨S1x512, .f32⟩
  | .local _ .vmem, ⟨17, _⟩ => ⟨S4x64x512, .bf16⟩
  | .local _ .vmem, ⟨18, _⟩ => ⟨S4x64x512, .bf16⟩
  | .local _ .vmem, ⟨19, _⟩ => ⟨S4x4x128x128, .f32⟩
  | .local _ .vmem, ⟨20, _⟩ => ⟨S4x4x128x128, .f32⟩
  | .local _ .vmem, ⟨21, _⟩ => ⟨S4x8x128, .f32⟩
  | .local _ .vmem, ⟨22, _⟩ => ⟨S4x8x128, .f32⟩
  | .local _ .vmem, ⟨23, _⟩ => ⟨S4x8x128, .f32⟩
  | .local _ .vmem, ⟨24, _⟩ => ⟨S4x8x128, .f32⟩
  | .local _ .vmem, ⟨25, _⟩ => ⟨S4x4x128x128, .f32⟩
  | _, _ => ⟨S32x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev main_v5_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S4x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S4x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | _ => none
-- ==== ReferenceIdeal.lean ====
abbrev S32x64x512 : Shape := ⟨3, ![32, 64, 512]⟩
abbrev S32x64x128 : Shape := ⟨3, ![32, 64, 128]⟩
abbrev S32x4x128x128 : Shape := ⟨4, ![32, 4, 128, 128]⟩
abbrev S32x4x128 : Shape := ⟨3, ![32, 4, 128]⟩
abbrev S32x4 : Shape := ⟨2, ![32, 4]⟩
abbrev S512 : Shape := ⟨1, ![512]⟩
abbrev S32x64x4x128 : Shape := ⟨4, ![32, 64, 4, 128]⟩
abbrev S32x4x64x128 : Shape := ⟨4, ![32, 4, 64, 128]⟩
abbrev S32x64x4 : Shape := ⟨3, ![32, 64, 4]⟩
abbrev S32x4x64 : Shape := ⟨3, ![32, 4, 64]⟩
abbrev S_ : Shape := ⟨0, ![]⟩
abbrev S64x64 : Shape := ⟨2, ![64, 64]⟩
abbrev S32x4x64x1 : Shape := ⟨4, ![32, 4, 64, 1]⟩
abbrev S32x4x1x64 : Shape := ⟨4, ![32, 4, 1, 64]⟩
abbrev S32x4x64x64 : Shape := ⟨4, ![32, 4, 64, 64]⟩
abbrev S32x4x1 : Shape := ⟨3, ![32, 4, 1]⟩
abbrev S32x4x1x1 : Shape := ⟨4, ![32, 4, 1, 1]⟩
abbrev S32x64x4x1 : Shape := ⟨4, ![32, 64, 4, 1]⟩
abbrev S1x1x512 : Shape := ⟨3, ![1, 1, 512]⟩
abbrev S32x8x128 : Shape := ⟨3, ![32, 8, 128]⟩
abbrev S32x8 : Shape := ⟨2, ![32, 8]⟩
abbrev S32x8x1 : Shape := ⟨3, ![32, 8, 1]⟩

abbrev nBuf : Space → Nat
  | .hbm => 163
  | .vmem => 0
  | .smem => 0
  | _ => 0

abbrev hbmTy0_0 (i : Nat) : BufTy := match i % 128 with
  | 0 => ⟨S32x64x512, .bf16⟩
  | 1 => ⟨S32x64x512, .bf16⟩
  | 2 => ⟨S32x64x512, .bf16⟩
  | 3 => ⟨S32x64x128, .f32⟩
  | 4 => ⟨S32x64x512, .f32⟩
  | 5 => ⟨S32x4x128x128, .f32⟩
  | 6 => ⟨S32x4x128, .f32⟩
  | 7 => ⟨S32x4, .f32⟩
  | 8 => ⟨S512, .f32⟩
  | 9 => ⟨S32x64x512, .f32⟩
  | 10 => ⟨S32x64x4x128, .f32⟩
  | 11 => ⟨S32x4x64x128, .f32⟩
  | 12 => ⟨S32x64x512, .f32⟩
  | 13 => ⟨S32x64x4x128, .f32⟩
  | 14 => ⟨S32x4x64x128, .f32⟩
  | 15 => ⟨S32x64x512, .f32⟩
  | 16 => ⟨S32x64x4x128, .f32⟩
  | 17 => ⟨S32x4x64x128, .f32⟩
  | 18 => ⟨S32x64x4, .f32⟩
  | 19 => ⟨S32x4x64, .f32⟩
  | 20 => ⟨S32x64x4, .f32⟩
  | 21 => ⟨S32x4x64, .f32⟩
  | 22 => ⟨S32x4x64, .f32⟩
  | 23 => ⟨S_, .f32⟩
  | 24 => ⟨S32x4x64, .f32⟩
  | 25 => ⟨S32x4x64, .f32⟩
  | 26 => ⟨S32x4x64, .f32⟩
  | 27 => ⟨S32x4x64, .f32⟩
  | 28 => ⟨S32x4x64, .i1⟩
  | 29 => ⟨S32x4x64, .f32⟩
  | 30 => ⟨S32x4x64, .f32⟩
  | 31 => ⟨S32x4x64, .f32⟩
  | 32 => ⟨S32x4x64, .f32⟩
  | 33 => ⟨S32x4x64, .f32⟩
  | 34 => ⟨S32x4x64, .f32⟩
  | 35 => ⟨S32x4x64, .f32⟩
  | 36 => ⟨S32x4x64, .f32⟩
  | 37 => ⟨S32x4x64, .f32⟩
  | 38 => ⟨S_, .f32⟩
  | 39 => ⟨S_, .f32⟩
  | 40 => ⟨S32x4x64, .f32⟩
  | 41 => ⟨S_, .i1⟩
  | 42 => ⟨S64x64, .i1⟩
  | 43 => ⟨S64x64, .i32⟩
  | 44 => ⟨S_, .i32⟩
  | 45 => ⟨S64x64, .i32⟩
  | 46 => ⟨S64x64, .i32⟩
  | 47 => ⟨S64x64, .i32⟩
  | 48 => ⟨S64x64, .i1⟩
  | 49 => ⟨S_, .i1⟩
  | 50 => ⟨S64x64, .i1⟩
  | 51 => ⟨S64x64, .i1⟩
  | 52 => ⟨S32x4x64x1, .f32⟩
  | 53 => ⟨S32x4x1x64, .f32⟩
  | 54 => ⟨S32x4x64x64, .f32⟩
  | 55 => ⟨S32x4x64x64, .f32⟩
  | 56 => ⟨S32x4x64x64, .f32⟩
  | 57 => ⟨S32x4x1x64, .f32⟩
  | 58 => ⟨S32x4x64x64, .f32⟩
  | 59 => ⟨S32x4x64x64, .f32⟩
  | 60 => ⟨S_, .f32⟩
  | 61 => ⟨S_, .f32⟩
  | 62 => ⟨S32x4x64x64, .i1⟩
  | 63 => ⟨S32x4x64x64, .f32⟩
  | 64 => ⟨S32x4x64x64, .f32⟩
  | 65 => ⟨S32x4x1, .f32⟩
  | 66 => ⟨S32x4x64, .f32⟩
  | 67 => ⟨S32x4x64, .f32⟩
  | 68 => ⟨S_, .f32⟩
  | 69 => ⟨S32x4x64, .f32⟩
  | 70 => ⟨S32x4x64, .f32⟩
  | 71 => ⟨S32x4x64, .f32⟩
  | 72 => ⟨S32x4x64, .f32⟩
  | 73 => ⟨S32x4x64x1, .f32⟩
  | 74 => ⟨S32x4x64x64, .f32⟩
  | 75 => ⟨S32x4x64x64, .f32⟩
  | 76 => ⟨S32x4x64x64, .f32⟩
  | 77 => ⟨S32x4x64x64, .f32⟩
  | 78 => ⟨S32x4x64x64, .f32⟩
  | 79 => ⟨S32x4x64x1, .f32⟩
  | 80 => ⟨S32x4x64x128, .f32⟩
  | 81 => ⟨S32x4x64x128, .f32⟩
  | 82 => ⟨S32x4x64x128, .f32⟩
  | 83 => ⟨S32x4x64x128, .f32⟩
  | 84 => ⟨S32x4x64x128, .f32⟩
  | 85 => ⟨S32x4x64, .f32⟩
  | 86 => ⟨S32x4x64, .f32⟩
  | 87 => ⟨S_, .f32⟩
  | 88 => ⟨S32x4x64, .f32⟩
  | 89 => ⟨S32x4x64, .f32⟩
  | 90 => ⟨S32x4x64, .f32⟩
  | 91 => ⟨S32x4x64, .f32⟩
  | 92 => ⟨S32x4x64, .f32⟩
  | 93 => ⟨S32x4x64, .f32⟩
  | 94 => ⟨S32x4x64x1, .f32⟩
  | 95 => ⟨S32x4x64x128, .f32⟩
  | 96 => ⟨S32x4x64x128, .f32⟩
  | 97 => ⟨S32x4x1, .f32⟩
  | 98 => ⟨S32x4, .f32⟩
  | 99 => ⟨S32x4x1, .f32⟩
  | 100 => ⟨S32x4x64, .f32⟩
  | 101 => ⟨S32x4x64, .f32⟩
  | 102 => ⟨S32x4x64, .f32⟩
  | 103 => ⟨S32x4, .f32⟩
  | 104 => ⟨S_, .f32⟩
  | 105 => ⟨S32x4, .f32⟩
  | 106 => ⟨S32x4, .f32⟩
  | 107 => ⟨S32x4, .f32⟩
  | 108 => ⟨S32x4, .f32⟩
  | 109 => ⟨S32x4, .f32⟩
  | 110 => ⟨S32x4x1, .f32⟩
  | 111 => ⟨S32x4x64, .f32⟩
  | 112 => ⟨S32x4x64, .f32⟩
  | 113 => ⟨S32x4x64, .f32⟩
  | 114 => ⟨S32x4x1x1, .f32⟩
  | 115 => ⟨S32x4x128x128, .f32⟩
  | 116 => ⟨S32x4x128x128, .f32⟩
  | 117 => ⟨S32x4x64x1, .f32⟩
  | 118 => ⟨S32x4x64x128, .f32⟩
  | 119 => ⟨S32x4x64x128, .f32⟩
  | 120 => ⟨S32x4x128x128, .f32⟩
  | 121 => ⟨S32x4x128x128, .f32⟩
  | 122 => ⟨S32x4x1, .f32⟩
  | 123 => ⟨S32x4x128, .f32⟩
  | 124 => ⟨S32x4x128, .f32⟩
  | 125 => ⟨S32x4x128, .f32⟩
  | 126 => ⟨S32x4x128, .f32⟩
  | 127 => ⟨S32x64x4x128, .f32⟩
  | _ => ⟨S32x64x512, .bf16⟩

abbrev hbmTy0_1 (i : Nat) : BufTy := match i % 128 with
  | 0 => ⟨S32x64x4x128, .f32⟩
  | 1 => ⟨S_, .f32⟩
  | 2 => ⟨S32x64x4, .f32⟩
  | 3 => ⟨S32x64x4x1, .f32⟩
  | 4 => ⟨S_, .f32⟩
  | 5 => ⟨S32x64x4x1, .f32⟩
  | 6 => ⟨S32x64x4x1, .f32⟩
  | 7 => ⟨S_, .f32⟩
  | 8 => ⟨S32x64x4x1, .f32⟩
  | 9 => ⟨S32x64x4x1, .f32⟩
  | 10 => ⟨S32x64x4x1, .f32⟩
  | 11 => ⟨S32x64x4x128, .f32⟩
  | 12 => ⟨S32x64x4x128, .f32⟩
  | 13 => ⟨S32x64x512, .f32⟩
  | 14 => ⟨S1x1x512, .f32⟩
  | 15 => ⟨S32x64x512, .f32⟩
  | 16 => ⟨S32x64x512, .f32⟩
  | 17 => ⟨S_, .i32⟩
  | 18 => ⟨S_, .f32⟩
  | 19 => ⟨S32x8x128, .f32⟩
  | 20 => ⟨S_, .i32⟩
  | 21 => ⟨S_, .f32⟩
  | 22 => ⟨S32x8, .f32⟩
  | 23 => ⟨S32x8x1, .f32⟩
  | 24 => ⟨S32x8x128, .f32⟩
  | 25 => ⟨S32x64x512, .f32⟩
  | 26 => ⟨S32x64x512, .f32⟩
  | 27 => ⟨S_, .f32⟩
  | 28 => ⟨S32x64x512, .f32⟩
  | 29 => ⟨S32x64x512, .f32⟩
  | 30 => ⟨S_, .f32⟩
  | 31 => ⟨S32x64x512, .f32⟩
  | 32 => ⟨S32x64x512, .f32⟩
  | 33 => ⟨S32x64x512, .f32⟩
  | 34 => ⟨S32x64x512, .bf16⟩
  | _ => ⟨S32x64x512, .bf16⟩

abbrev hbmTy (i : Nat) : BufTy := match i / 128 with
  | 0 => hbmTy0_0 i
  | 1 => hbmTy0_1 i
  | _ => ⟨S32x64x512, .bf16⟩

abbrev bufTy : (tb : Table) → Fin (tcTables nBuf tb) → BufTy
  | .hbm, ⟨i, _⟩ => hbmTy i
  | _, _ => ⟨S32x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v13 : Ref sig .tc := ⟨.hbm, 37, rfl⟩
abbrev main_call1_call0_cst : Ref sig .tc := ⟨.hbm, 38, rfl⟩
abbrev main_call1_call0_v0 : Ref sig .tc := ⟨.hbm, 39, rfl⟩
abbrev main_v14 : Ref sig .tc := ⟨.hbm, 40, rfl⟩
abbrev main_c : Ref sig .tc := ⟨.hbm, 41, rfl⟩
abbrev main_v15 : Ref sig .tc := ⟨.hbm, 42, rfl⟩
abbrev main_call2_v0 : Ref sig .tc := ⟨.hbm, 43, rfl⟩
abbrev main_call2_c : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_c_0 : Ref sig .tc := ⟨.hbm, 49, rfl⟩
abbrev main_call2_v5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_0 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_1 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_2 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_3 : Ref sig .tc := ⟨.hbm, 129, rfl⟩
abbrev main_v87 : Ref sig .tc := ⟨.hbm, 130, rfl⟩
abbrev main_v88 : Ref sig .tc := ⟨.hbm, 131, rfl⟩
abbrev main_cst_4 : Ref sig .tc := ⟨.hbm, 132, rfl⟩
abbrev main_v89 : Ref sig .tc := ⟨.hbm, 133, rfl⟩
abbrev main_v90 : Ref sig .tc := ⟨.hbm, 134, rfl⟩
abbrev main_cst_5 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_c_6 : Ref sig .tc := ⟨.hbm, 145, rfl⟩
abbrev main_call4_v0 : Ref sig .tc := ⟨.hbm, 146, rfl⟩
abbrev main_v100 : Ref sig .tc := ⟨.hbm, 147, rfl⟩
abbrev main_c_7 : Ref sig .tc := ⟨.hbm, 148, rfl⟩
abbrev main_call5_v0 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_8 : Ref sig .tc := ⟨.hbm, 155, rfl⟩
abbrev main_v106 : Ref sig .tc := ⟨.hbm, 156, rfl⟩
abbrev main_v107 : Ref sig .tc := ⟨.hbm, 157, rfl⟩
abbrev main_cst_9 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩

abbrev nD : Nat := 1
abbrev τ : Topo := Topo.v7x

variable {F : FTy → Type} [FloatOps F]
-- ==== Ffn1.lean ====
abbrev S2x16384x1024 : Shape := ⟨3, ![2, 16384, 1024]⟩
abbrev S2x9x1024 : Shape := ⟨3, ![2, 9, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x1024x1024 : Shape := ⟨3, ![1, 1024, 1024]⟩
abbrev S1x9x1024 : Shape := ⟨3, ![1, 9, 1024]⟩
abbrev S2x512x1024 : Shape := ⟨3, ![2, 512, 1024]⟩
abbrev S2x512x2816 : Shape := ⟨3, ![2, 512, 2816]⟩
abbrev S1x1x1024 : Shape := ⟨3, ![1, 1, 1024]⟩
abbrev S1x512x1024 : Shape := ⟨3, ![1, 512, 1024]⟩
abbrev S1x512 : Shape := ⟨2, ![1, 512]⟩
abbrev S1x512x1 : Shape := ⟨3, ![1, 512, 1]⟩
abbrev S512x1024 : Shape := ⟨2, ![512, 1024]⟩
abbrev S1024x256 : Shape := ⟨2, ![1024, 256]⟩
abbrev S512x256 : Shape := ⟨2, ![512, 256]⟩
abbrev S1x512x256 : Shape := ⟨3, ![1, 512, 256]⟩
abbrev S8x128 : Shape := ⟨2, ![8, 128]⟩
abbrev S1x128 : Shape := ⟨2, ![1, 128]⟩
abbrev S1x32x1024 : Shape := ⟨3, ![1, 32, 1024]⟩
abbrev S1x32 : Shape := ⟨2, ![1, 32]⟩
abbrev S1x32x1 : Shape := ⟨3, ![1, 32, 1]⟩
abbrev S32x1024 : Shape := ⟨2, ![32, 1024]⟩
abbrev S1x512x2816 : Shape := ⟨3, ![1, 512, 2816]⟩
abbrev S512x2816 : Shape := ⟨2, ![512, 2816]⟩

abbrev nBuf : Space → Nat
  | .hbm => 11
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S2x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S2x512x1024, .bf16⟩
  | .local _ .vmem, ⟨11, _⟩ => ⟨S2x512x2816, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [BitOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Ffn1Ideal.lean ====
variable {F : FTy → Type} [FloatOps F]
-- ==== RefFfn1Ideal.lean ====
abbrev S2x16384x1024 : Shape := ⟨3, ![2, 16384, 1024]⟩
abbrev S2x9x1024 : Shape := ⟨3, ![2, 9, 1024]⟩
abbrev S1024 : Shape := ⟨1, ![1024]⟩
abbrev S1024x5632 : Shape := ⟨2, ![1024, 5632]⟩
abbrev S2816x1024 : Shape := ⟨2, ![2816, 1024]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩

abbrev nBuf : Space → Nat
  | .hbm => 52
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x16384x1024, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x1024, .f32⟩
  | .hbm, ⟨21, _⟩ => ⟨S2x16384x1024, .f32⟩
  | .hbm, ⟨22, _⟩ => ⟨S1x1x1024, .f32⟩
  | .hbm, ⟨23, _⟩ => ⟨S2x16384x1024, .f32⟩
  | .hbm, ⟨24, _⟩ => ⟨S2x16384x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S2x16384x5632, .f32⟩
  | .hbm, ⟨33, _⟩ => ⟨S2x16384x2816, .f32⟩
  | .hbm, ⟨34, _⟩ => ⟨S2x16384x2816, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x16384x2816, .f32⟩
  | .hbm, ⟨39, _⟩ => ⟨S2x16384x2816, .f32⟩
  | .hbm, ⟨40, _⟩ => ⟨S_, .f32⟩
  | .hbm, ⟨41, _⟩ => ⟨S2x16384x2816, .f32⟩
  | .hbm, ⟨42, _⟩ => ⟨S2x16384x2816, .f32⟩
  | .hbm, ⟨43, _⟩ => ⟨S_, .f32⟩
  | .hbm, ⟨44, _⟩ => ⟨S2x16384x2816, .f32⟩
  | .hbm, ⟨45, _⟩ => ⟨S2x16384x2816, .f32⟩
  | .hbm, ⟨46, _⟩ => ⟨S2x16384x2816, .f32⟩
  | .hbm, ⟨47, _⟩ => ⟨S2x16384x2816, .f32⟩
  | .hbm, ⟨48, _⟩ => ⟨S2x16384x1024, .f32⟩
  | .hbm, ⟨49, _⟩ => ⟨S2x16384x1024, .f32⟩
  | .hbm, ⟨50, _⟩ => ⟨S2x16384x1024, .f32⟩
  | .hbm, ⟨51, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Ffn2.lean ====
abbrev S2x16384x1024 : Shape := ⟨3, ![2, 16384, 1024]⟩
abbrev S2x9x1024 : Shape := ⟨3, ![2, 9, 1024]⟩
abbrev S1024 : Shape := ⟨1, ![1024]⟩
abbrev S1024x5632 : Shape := ⟨2, ![1024, 5632]⟩
abbrev S2816x1024 : Shape := ⟨2, ![2816, 1024]⟩
abbrev S2x16384x512 : Shape := ⟨3, ![2, 16384, 512]⟩
abbrev S1024x1024 : Shape := ⟨2, ![1024, 1024]⟩
abbrev S1x1024 : Shape := ⟨2, ![1, 1024]⟩
abbrev S1x1024x1024 : Shape := ⟨3, ![1, 1024, 1024]⟩
abbrev S1x1024x512 : Shape := ⟨3, ![1, 1024, 512]⟩
abbrev S1x9x1024 : Shape := ⟨3, ![1, 9, 1024]⟩
abbrev S2x512x1024 : Shape := ⟨3, ![2, 512, 1024]⟩
abbrev S2x512x2816 : Shape := ⟨3, ![2, 512, 2816]⟩
abbrev S512x1024 : Shape := ⟨2, ![512, 1024]⟩
abbrev S1x512x512 : Shape := ⟨3, ![1, 512, 512]⟩
abbrev S512x512 : Shape := ⟨2, ![512, 512]⟩
abbrev S1x512x1024 : Shape := ⟨3, ![1, 512, 1024]⟩
abbrev S1x1x1024 : Shape := ⟨3, ![1, 1, 1024]⟩
abbrev S1x512 : Shape := ⟨2, ![1, 512]⟩
abbrev S1x512x1 : Shape := ⟨3, ![1, 512, 1]⟩
abbrev S1024x256 : Shape := ⟨2, ![1024, 256]⟩
abbrev S512x256 : Shape := ⟨2, ![512, 256]⟩
abbrev S1x512x256 : Shape := ⟨3, ![1, 512, 256]⟩
abbrev S8x128 : Shape := ⟨2, ![8, 128]⟩
abbrev S1x128 : Shape := ⟨2, ![1, 128]⟩
abbrev S32x1024 : Shape := ⟨2, ![32, 1024]⟩
abbrev S1x32x1024 : Shape := ⟨3, ![1, 32, 1024]⟩
abbrev S1x32 : Shape := ⟨2, ![1, 32]⟩
abbrev S1x32x1 : Shape := ⟨3, ![1, 32, 1]⟩
abbrev S1x512x2816 : Shape := ⟨3, ![1, 512, 2816]⟩
abbrev S512x2816 : Shape := ⟨2, ![512, 2816]⟩

abbrev nBuf : Space → Nat
  | .hbm => 15
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S2x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S2x16384x512, .bf16⟩
  | .hbm, ⟨7, _⟩ => ⟨S2x16384x512, .bf16⟩
  | .hbm, ⟨8, _⟩ => ⟨S1024x1024, .f32⟩
  | .hbm, ⟨9, _⟩ => ⟨S1x1024, .f32⟩
  | .hbm, ⟨10, _⟩ => ⟨S1024x5632, .bf16⟩
  | .hbm, ⟨11, _⟩ => ⟨S2816x1024, .bf16⟩
  | .hbm, ⟨12, _⟩ => ⟨S1x1024, .f32⟩
  | .hbm, ⟨13, _⟩ => ⟨S1024x1024, .bf16⟩
  | .hbm, ⟨14, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x9x1024, .f32⟩
  | .local _ .vmem, ⟨7, _⟩ => ⟨S1x9x1024, .f32⟩
  | .local _ .vmem, ⟨8, _⟩ => ⟨S1x1024, .f32⟩
  | .local _ .vmem, ⟨9, _⟩ => ⟨S1024x1024, .bf16⟩
  | .local _ .vmem, ⟨10, _⟩ => ⟨S1024x5632, .bf16⟩
  | .local _ .vmem, ⟨11, _⟩ => ⟨S2816x1024, .bf16⟩
  | .local _ .vmem, ⟨12, _⟩ => ⟨S1x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S2x512x1024, .bf16⟩
  | .local _ .vmem, ⟨16, _⟩ => ⟨S2x512x2816, .bf16⟩
  | .local _ .vmem, ⟨17, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [BitOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Ffn2Ideal.lean ====
variable {F : FTy → Type} [FloatOps F]
-- ==== RefFfn2Ideal.lean ====
abbrev S2x16384x1024 : Shape := ⟨3, ![2, 16384, 1024]⟩
abbrev S2x9x1024 : Shape := ⟨3, ![2, 9, 1024]⟩
abbrev S1024 : Shape := ⟨1, ![1024]⟩
abbrev S1024x5632 : Shape := ⟨2, ![1024, 5632]⟩
abbrev S2816x1024 : Shape := ⟨2, ![2816, 1024]⟩
abbrev S2x16384x512 : Shape := ⟨3, ![2, 16384, 512]⟩
abbrev S1024x1024 : Shape := ⟨2, ![1024, 1024]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩

abbrev nBuf : Space → Nat
  | .hbm => 79
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S2x16384x512, .bf16⟩
  | .hbm, ⟨7, _⟩ => ⟨S2x16384x512, .bf16⟩
  | .hbm, ⟨8, _⟩ => ⟨S1024x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x16384x512, .f32⟩
  | .hbm, ⟨14, _⟩ => ⟨S2x16384x512, .f32⟩
  | .hbm, ⟨15, _⟩ => ⟨S2x16384x1024, .f32⟩
  | .hbm, ⟨16, _⟩ => ⟨S2x16384x1024, .f32⟩
  | .hbm, ⟨17, _⟩ => ⟨S2x16384x1024, .f32⟩
  | .hbm, ⟨18, _⟩ => ⟨S2x16384x1024, .f32⟩
  | .hbm, ⟨19, _⟩ => ⟨S2x16384x1024, .f32⟩
  | .hbm, ⟨20, _⟩ => ⟨S2x16384x1024, .f32⟩
  | .hbm, ⟨21, _⟩ => ⟨S_, .f32⟩
  | .hbm, ⟨22, _⟩ => ⟨S2x16384, .f32⟩
  | .hbm, ⟨23, _⟩ => ⟨S2x16384x1, .f32⟩
  | .hbm, ⟨24, _⟩ => ⟨S_, .f32⟩
  | .hbm, ⟨25, _⟩ => ⟨S2x16384x1, .f32⟩
  | .hbm, ⟨26, _⟩ => ⟨S2x16384x1, .f32⟩
  | .hbm, ⟨27, _⟩ => ⟨S_, .f32⟩
  | .hbm, ⟨28, _⟩ => ⟨S2x16384x1, .f32⟩
  | .hbm, ⟨29, _⟩ => ⟨S2x16384x1, .f32⟩
  | .hbm, ⟨30, _⟩ => ⟨S2x16384x1, .f32⟩
  | .hbm, ⟨31, _⟩ => ⟨S2x16384x1024, .f32⟩
  | .hbm, ⟨32, _⟩ => ⟨S2x16384x1024, .f32⟩
  | .hbm, ⟨33, _⟩ => ⟨S1x1x1024, .f32⟩
  | .hbm, ⟨34, _⟩ => ⟨S2x16384x1024, .f32⟩
  | .hbm, ⟨35, _⟩ => ⟨S2x16384x1024, .f32⟩
  | .hbm, ⟨36, _⟩ => ⟨S_, .f32⟩
  | .hbm, ⟨37, _⟩ => ⟨S2x1x1024, .f32⟩
  | .hbm, ⟨38, _⟩ => ⟨S2x1x1024, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | .hbm, ⟨42, _⟩ => ⟨S2x16384x1024, .f32⟩
  | .hbm, ⟨43, _⟩ => ⟨S2x16384x5632, .f32⟩
  | .hbm, ⟨44, _⟩ => ⟨S2x16384x2816, .f32⟩
  | .hbm, ⟨45, _⟩ => ⟨S2x16384x2816, .f32⟩
  | .hbm, ⟨46, _⟩ => ⟨S_, .f32⟩
  | .hbm, ⟨47, _⟩ => ⟨S2x1x1024, .f32⟩
  | .hbm, ⟨48, _⟩ => ⟨S2x1x1024, .f32⟩
  | .hbm, ⟨49, _⟩ => ⟨S2x16384x2816, .f32⟩
  | .hbm, ⟨50, _⟩ => ⟨S2x16384x2816, .f32⟩
  | .hbm, ⟨51, _⟩ => ⟨S_, .f32⟩
  | .hbm, ⟨52, _⟩ => ⟨S2x16384x2816, .f32⟩
  | .hbm, ⟨53, _⟩ => ⟨S2x16384x2816, .f32⟩
  | .hbm, ⟨54, _⟩ => ⟨S_, .f32⟩
  | .hbm, ⟨55, _⟩ => ⟨S2x16384x2816, .f32⟩
  | .hbm, ⟨56, _⟩ => ⟨S2x16384x2816, .f32⟩
  | .hbm, ⟨57, _⟩ => ⟨S2x16384x2816, .f32⟩
  | .hbm, ⟨58, _⟩ => ⟨S2x16384x2816, .f32⟩
  | .hbm, ⟨59, _⟩ => ⟨S2x16384x1024, .f32⟩
  | .hbm, ⟨60, _⟩ => ⟨S2x16384x1024, .f32⟩
  | .hbm, ⟨61, _⟩ => ⟨S2x16384x1024, .f32⟩
  | .hbm, ⟨62, _⟩ => ⟨S2x16384x1024, .f32⟩
  | .hbm, ⟨63, _⟩ => ⟨S2x16384x1024, .f32⟩
  | .hbm, ⟨64, _⟩ => ⟨S_, .f32⟩
  | .hbm, ⟨65, _⟩ => ⟨S2x16384, .f32⟩
  | .hbm, ⟨66, _⟩ => ⟨S2x16384x1, .f32⟩
  | .hbm, ⟨67, _⟩ => ⟨S_, .f32⟩
  | .hbm, ⟨68, _⟩ => ⟨S2x16384x1, .f32⟩
  | .hbm, ⟨69, _⟩ => ⟨S2x16384x1, .f32⟩
  | .hbm, ⟨70, _⟩ => ⟨S_, .f32⟩
  | .hbm, ⟨71, _⟩ => ⟨S2x16384x1, .f32⟩
  | .hbm, ⟨72, _⟩ => ⟨S2x16384x1, .f32⟩
  | .hbm, ⟨73, _⟩ => ⟨S2x16384x1, .f32⟩
  | .hbm, ⟨74, _⟩ => ⟨S2x16384x1024, .f32⟩
  | .hbm, ⟨75, _⟩ => ⟨S2x16384x1024, .f32⟩
  | .hbm, ⟨76, _⟩ => ⟨S1x1x1024, .f32⟩
  | .hbm, ⟨77, _⟩ => ⟨S2x16384x1024, .f32⟩
  | .hbm, ⟨78, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_4 : Ref sig .tc := ⟨.hbm, 64, rfl⟩
abbrev main_v42 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_v45 : Ref sig .tc := ⟨.hbm, 69, rfl⟩
abbrev main_cst_6 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== Proof.FfnMath.lean ====
/- The mathematics of one feed-forward half step, row by row, over the extended reals. -/
module

public import Idealize.ShloMosaic.Lib.Pointwise
public import Idealize.ShloMosaic.Lib.Pipeline.ValueKit
public import Idealize.ShloMosaic.Lib.Pipeline.ReadBack

@[expose] public section

noncomputable section

namespace Cert.FfnMath

open Idealize.ShloMosaic

/-- The reciprocal root mean square of a row of 1024 numbers. -/
def irms (x : Fin 1024 → EReal) : EReal :=
  Ideal.rsqrt (Ideal.div (∑ k, x k * x k) (Ideal.ofBits .f32 1149239296#32) + Ideal.ofBits .f32 897988541#32)

/-- A row after the norm with row gain `g`, scaled by `1 + sc` and shifted by `sh`. -/
def nrm (x sh sc g : Fin 1024 → EReal) (k : Fin 1024) : EReal :=
  x k * irms x * (g k * (1 + sc k)) + sh k

/-- The gated unit: `a` times its logistic, times `u`. -/
def glu (a u : EReal) : EReal := a * Ideal.div 1 (1 + Ideal.exp (0 - a)) * u

/-- Entry `f` of the hidden row: the gated unit of the gate column and the value column. -/
def hid (h : Fin 1024 → EReal) (wu : Fin 1024 → Fin 5632 → EReal) (f : Fin 2816) : EReal :=
  glu (∑ k, h k * wu k ⟨f.val, by omega⟩) (∑ k, h k * wu k ⟨2816 + f.val, by omega⟩)

/-- One feed-forward half step of a row `x`: residual plus half the gate times the down projection. -/
def half (x sh sc gt g : Fin 1024 → EReal) (wu : Fin 1024 → Fin 5632 → EReal) (wd : Fin 2816 → Fin 1024 → EReal)
    (e : Fin 1024) : EReal :=
  x e + Ideal.ofBits .f32 1056964608#32 * gt e * ∑ f, hid (nrm x sh sc g) wu f * wd f e

/-- The mixer's output projection: the memory's row times the upper half of the weights plus the attention's times the lower. -/
def mix (hm att : Fin 512 → EReal) (wo : Fin 1024 → Fin 1024 → EReal) (e : Fin 1024) : EReal :=
  (∑ k, hm k * wo ⟨k.val, by omega⟩ e) + ∑ k, att k * wo ⟨512 + k.val, by omega⟩ e

/-- The mixer's residual step of a row `x` with gate `gt`. -/
def resid (x gt : Fin 1024 → EReal) (hm att : Fin 512 → EReal) (wo : Fin 1024 → Fin 1024 → EReal) (e : Fin 1024) : EReal :=
  x e + gt e * mix hm att wo e

/-- The final norm of a row with gain `g`. -/
def fin (y g : Fin 1024 → EReal) (e : Fin 1024) : EReal := y e * irms y * g e

/-- A load of a buffer written in pieces, each a block of `G` and together covering the box, reads `G` there. -/
theorem readCov_of_pieces {sig : RefSig} {κ : Kind} {sp : Space} {s : Shape} {e : EltTy} {Val : EltTy → Type}
    [∀ e, Nonempty (Val e)] (v : View sig κ sp s e) (G : s.Idx → Val e) (L : List (View.Piece Val s e)) (r : Rect s)
    (h : View.PiecesOf G L) (hc : ∀ j : r.shape.Idx, ∃ p ∈ L, r.idx j ∈ p.1.set) :
    v.readCov L r.toLoadRect = View.ld G r := by
  rw [View.readCov_eq_canon']
  funext j
  exact View.canon_append_of_piecesOf G [] L h (r.idx j) (hc j) |> fun q => by simpa using q

/-- Blocks of width `w` along axis `a`, the last one first in the list, cover the box they split. -/
def chain (a w : Nat) : Nat → LoadRect.Cov
  | 0 => .leaf 0
  | i + 1 => .split a w (.leaf (i + 1)) (chain a w i)

/-- The same, the cover checked block by block along one axis. -/
theorem readCov_of_chain {sig : RefSig} {κ : Kind} {sp : Space} {s : Shape} {e : EltTy} {Val : EltTy → Type}
    [∀ e, Nonempty (Val e)] (v : View sig κ sp s e) (G : s.Idx → Val e) (L : List (View.Piece Val s e)) (r : Rect s) (a w i : Nat)
    (h : View.PiecesOf G L) (hc : LoadRect.covChk (L.map Sigma.fst) r.toLoadRect (chain a w i) = true) :
    v.readCov L r.toLoadRect = View.ld G r :=
  readCov_of_pieces v G L r h fun j => LoadRect.cover_of_covChk L r.toLoadRect _ hc j

/-- One more piece, a block of `G`. -/
theorem pieces_cons {s : Shape} {e : EltTy} {Val : EltTy → Type} {G : s.Idx → Val e} {r : Rect s} {p : r.shape.Idx → Val e}
    {L : List (View.Piece Val s e)} (h : ∀ x, p x = G (r.emb x)) (hL : View.PiecesOf G L) : View.PiecesOf G (⟨r, p⟩ :: L) :=
  ⟨h, hL⟩

/-- Pieces that are blocks of `G` and cover the shape make up `G`. -/
theorem canon_of_pieces {s : Shape} {e : EltTy} {Val : EltTy → Type} [∀ e, Nonempty (Val e)] (G : s.Idx → Val e)
    (L : List (View.Piece Val s e)) (h : View.PiecesOf G L) (hc : ∀ y, ∃ p ∈ L, y ∈ p.1.set) : View.canon L = G :=
  funext fun y => by simpa using View.canon_append_of_piecesOf G [] L h y (hc y)

/-- The same when the first two pieces cover the shape, whatever the others hold. -/
theorem canon_two {s : Shape} {e : EltTy} {Val : EltTy → Type} [∀ e, Nonempty (Val e)] (G : s.Idx → Val e) {r₁ r₂ : Rect s}
    (p₁ : r₁.shape.Idx → Val e) (p₂ : r₂.shape.Idx → Val e) (L : List (View.Piece Val s e)) (h₁ : ∀ x, p₁ x = G (r₁.emb x))
    (h₂ : ∀ x, p₂ x = G (r₂.emb x)) (hc : ∀ y, ∃ p ∈ ([⟨r₁, p₁⟩, ⟨r₂, p₂⟩] : List (View.Piece Val s e)), y ∈ p.1.set) :
    View.canon (⟨r₁, p₁⟩ :: ⟨r₂, p₂⟩ :: L) = G :=
  funext fun y => View.canon_append_of_piecesOf G L [⟨r₁, p₁⟩, ⟨r₂, p₂⟩] (pieces_cons h₁ (pieces_cons h₂ trivial)) y (hc y)

end Cert.FfnMath

end
-- ==== Proof.MlDefs.lean ====
/- What the mLSTM call computes for one sequence and one head, as vector operations. -/
module

public import proofs.«01_k».proof.Proof.Gen.KernelIdeal.Skeleton
public import proofs.«01_k».proof.Proof.FfnMath

@[expose] public section

set_option maxRecDepth 16384

noncomputable section

namespace Cert.MlDefs

open Cert.KernelIdeal Cert.KernelIdeal.Gen Cert.FfnMath Idealize.ShloMosaic Idealize.ShloMosaic.TcCoe Idealize.SL.Sem

/-! The gates of one sequence, `g` the block of gates and `mm` the previous stabiliser's row. -/

/-- The running sum of the log forget gates. -/
def Bv (g : Vec Ideal S1x64x128 .f32) : FVec Ideal S8x64 .f32 := k0_pay15 k0_pay7 (k0_pay11 g) (k0_pay13 g) (k0_pay14 g)
/-- The input gates less the running sum. -/
def Cv (g : Vec Ideal S1x64x128 .f32) : FVec Ideal S8x64 .f32 := k0_pay16 k0_pay7 (k0_pay9 g) (k0_pay11 g) (k0_pay13 g) (k0_pay14 g)
/-- The same to base two, a column per row. -/
def C2 (g : Vec Ideal S1x64x128 .f32) : FVec Ideal S64x128 .f32 := k0_pay17 k0_pay7 (k0_pay9 g) (k0_pay11 g) (k0_pay13 g) (k0_pay14 g)
/-- A column spread over the targets it is allowed to reach. -/
def Mk (y : FVec Ideal S64x1 .f32) : FVec Ideal S64x64 .f32 :=
  select k0_pay6 (broadcastTo S64x64 (shapeCast S64x1 y shapeCasts_S64x1_S64x1) broadcasts_S64x1_S64x64)
    (broadcast S64x64 (Named.named κ "mask" 0xF149F2CA#32))
/-- The largest entry of each masked column set, a row per head. -/
def Mx (g : Vec Ideal S1x64x128 .f32) : FVec Ideal S8x64 .f32 :=
  k0_pay22 k0_pay6 k0_pay7 (k0_pay9 g) (k0_pay11 g) (k0_pay13 g) (k0_pay14 g)
/-- The stabiliser of the sequence's own tokens. -/
def Mi (g : Vec Ideal S1x64x128 .f32) : FVec Ideal S8x64 .f32 := k0_pay24 (Bv g) (Mx g) k0_pay23
/-- The stabiliser of each token. -/
def Mt (g : Vec Ideal S1x64x128 .f32) (mm : Vec Ideal S1x8x128 .f32) : FVec Ideal S8x64 .f32 := k0_pay106 (Bv g) (Mi g) mm
/-- The scale of the sequence's own tokens, of the previous state, and the floor of the normaliser. -/
def Rw (g : Vec Ideal S1x64x128 .f32) (mm : Vec Ideal S1x8x128 .f32) : FVec Ideal S8x64 .f32 := k0_pay109 (Mi g) (Mt g mm)
def Ww (g : Vec Ideal S1x64x128 .f32) (mm : Vec Ideal S1x8x128 .f32) : FVec Ideal S8x64 .f32 := k0_pay110 (k0_pay105 (Bv g) mm) (Mt g mm)
def Fw (g : Vec Ideal S1x64x128 .f32) (mm : Vec Ideal S1x8x128 .f32) : FVec Ideal S8x64 .f32 := k0_pay111 (Mt g mm)
/-- The new stabiliser, the decay of the previous state, the weights of the tokens in the new one. -/
def Me (g : Vec Ideal S1x64x128 .f32) (mm : Vec Ideal S1x8x128 .f32) : FVec Ideal S8x1 .f32 := k0_pay103 (Bv g) (Cv g) mm
def De (g : Vec Ideal S1x64x128 .f32) (mm : Vec Ideal S1x8x128 .f32) : FVec Ideal S8x1 .f32 := k0_pay107 (Bv g) (Cv g) mm
def Gr (g : Vec Ideal S1x64x128 .f32) (mm : Vec Ideal S1x8x128 .f32) : FVec Ideal S8x64 .f32 := k0_pay104 (Bv g) (Cv g) mm

/-- The normalised read-out of one head, before the gain and the gate. -/
def Hr (msk : FVec Ideal S64x64 .f32) (cr : FVec Ideal S1x64 .f32) (s : FVec Ideal S64x64 .f32) (vt : FVec Ideal S128x64 .f32)
    (r w fl : FVec Ideal S1x64 .f32) (cq : FVec Ideal S128x64 .f32) (nq : FVec Ideal S1x64 .f32) : FVec Ideal S128x64 .f32 :=
  let a := mulf (exp2 (subf msk (broadcastTo S64x64 cr broadcasts_S1x64_S64x64))) s
  let num := addf
    (mulf (matmul dot_S128x64_S64x64_S128x64_1_0_0_1_n_n none (truncf .bf16 vt bitsLt_bf16_f32) (truncf .bf16 a bitsLt_bf16_f32)
      (constant S128x64 .f32 0x00000000#32)) (broadcastTo S128x64 r broadcasts_S1x64_S128x64))
    (mulf cq (broadcastTo S128x64 w broadcasts_S1x64_S128x64))
  let den := addf
    (mulf (shapeCast S1x64 (multiReduction .add [0] S64 a 0x00000000#32 reduces_S64x64_S64 (.inl rfl) rfl) shapeCasts_S64_S1x64) r)
    (mulf nq w)
  mulf num (broadcastTo S128x64 (divf (broadcast S1x64 (Scalar.ofBits .f32 0x3F800000#32)) (maximumf (absf den) fl))
    broadcasts_S1x64_S128x64)

/-- The gain and the output gate over the normalised rows. -/
def Ho (h : FVec Ideal S128x64 .f32) (gm : Vec Ideal S1x128 .f32) (mo : Vec Ideal S1x64x128 .f32) : FVec Ideal S1x64x128 .bf16 :=
  let ms := divf (shapeCast S1x64 (multiReduction .add [0] S64 (mulf h h) 0x00000000#32 reduces_S128x64_S64 (.inl rfl) rfl)
    shapeCasts_S64_S1x64) (broadcast S1x64 (Scalar.ofBits .f32 0x43000000#32))
  let hn := mulf h (broadcastTo S128x64 (rsqrt (addf ms (broadcast S1x64 (Scalar.ofBits .f32 0x358637BD#32)))) broadcasts_S1x64_S128x64)
  k0_pay224 (mulf (transpose S64x128 [1, 0] hn transposes_S128x64_p1_0_S64x128)
    (broadcastTo S64x128 (shapeCast S1x128 gm shapeCasts_S1x128_S1x128) broadcasts_S1x128_S64x128)) mo

/-- The output block of one head; `R` picks the head's row, `K` its column. -/
def HmB (R : FVec Ideal S8x64 .f32 → FVec Ideal S1x64 .f32) (K : FVec Ideal S64x128 .f32 → FVec Ideal S64x1 .f32)
    (g : Vec Ideal S1x64x128 .f32) (mm nn : Vec Ideal S1x8x128 .f32) (q k v : Vec Ideal S1x64x128 .bf16)
    (c : Vec Ideal S1x1x128x128 .f32) (gm : Vec Ideal S1x128 .f32) (mo : Vec Ideal S1x64x128 .f32) : FVec Ideal S1x64x128 .bf16 :=
  Ho (Hr (Mk (K (C2 g))) (R (Mx g)) (k0_pay66 k q) (k0_pay67 v) (R (Rw g mm)) (R (Ww g mm)) (R (Fw g mm)) (k0_pay156 q c)
    (R (matmul (F := Ideal) dot_S8x128_S64x128_S8x64_1_1_0_0_n_n none (k0_pay112 nn) (k0_pay154 q) (constant S8x64 .f32 0x00000000#32)))) gm mo

/-- The new memory of one head; `R` picks the head's row, `D` its decay. -/
def CB (R : FVec Ideal S8x64 .f32 → FVec Ideal S1x64 .f32) (D : FVec Ideal S8x1 .f32 → FVec Ideal S1x1 .f32)
    (g : Vec Ideal S1x64x128 .f32) (mm : Vec Ideal S1x8x128 .f32) (k v : Vec Ideal S1x64x128 .bf16)
    (c : Vec Ideal S1x1x128x128 .f32) : FVec Ideal S1x1x128x128 .f32 :=
  let vg := mulf (k0_pay67 v) (broadcastTo S128x64 (R (Gr g mm)) broadcasts_S1x64_S128x64)
  shapeCast S1x1x128x128 (transpose S128x128 [1, 0]
    (addf (mulf (broadcastTo S128x128 (D (De g mm)) broadcasts_S1x1_S128x128) (k0_pay155 c))
      (matmul dot_S128x64_S64x128_S128x128_1_0_0_1_n_n none (truncf .bf16 vg bitsLt_bf16_f32) (k0_pay222 k) (constant S128x128 .f32 0x00000000#32)))
    transposes_S128x128_p1_0_S128x128) shapeCasts_S128x128_S1x1x128x128

/-- One head's part of the new normaliser, in the head's row. -/
def Nu (h : BitVec 32) (gb : FVec Ideal S8x64 .bf16) (k : Vec Ideal S1x64x128 .bf16) : FVec Ideal S8x128 .f32 :=
  select (broadcastTo S8x128 (shapeCast S8x1 (cmpi .eq (iota .tc S8x1 32 [0] iota_S8x1_d0_w32) (broadcast S8x1 h)) shapeCasts_S8x1_S8x1)
      broadcasts_S8x1_S8x128)
    (matmul dot_S8x64_S64x128_S8x128_1_0_0_1_n_n none gb (k0_pay222 k) (constant S8x128 .f32 0x00000000#32))
    (broadcast S8x128 (Scalar.ofBits .f32 0x00000000#32))

/-- The new normaliser's rows. -/
def NB (g : Vec Ideal S1x64x128 .f32) (mm nn : Vec Ideal S1x8x128 .f32) (k0 k1 k2 k3 : Vec Ideal S1x64x128 .bf16) :
    FVec Ideal S1x8x128 .f32 :=
  k0_pay2 (De g mm) (addf (addf (addf (addf (broadcast S8x128 (Scalar.ofBits .f32 0x00000000#32))
    (Nu 0#32 (k0_pay108 (Bv g) (Cv g) mm) k0)) (Nu 1#32 (k0_pay108 (Bv g) (Cv g) mm) k1))
    (Nu 2#32 (k0_pay108 (Bv g) (Cv g) mm) k2)) (Nu 3#32 (k0_pay108 (Bv g) (Cv g) mm) k3)) nn

/-- The new stabiliser, spread over the lanes. -/
def MB (g : Vec Ideal S1x64x128 .f32) (mm : Vec Ideal S1x8x128 .f32) : FVec Ideal S1x8x128 .f32 := k0_pay1 (Me g mm)

/-- The row, the column and the decay of a head. -/
def rowH (h : Nat) (hs : S8x64.Slices ![h, 0] S1x64) (x : FVec Ideal S8x64 .f32) : FVec Ideal S1x64 .f32 :=
  extractStridedSlice S1x64 ![h, 0] x hs
def colH (h : Nat) (hs : S64x128.Slices ![0, h] S64x1) (x : FVec Ideal S64x128 .f32) : FVec Ideal S64x1 .f32 :=
  extractStridedSlice S64x1 ![0, h] x hs
def decH (h : Nat) (hs : S8x1.Slices ![h, 0] S1x1) (x : FVec Ideal S8x1 .f32) : FVec Ideal S1x1 .f32 :=
  extractStridedSlice S1x1 ![h, 0] x hs

end Cert.MlDefs

end
-- ==== Proof.MlMath.lean ====
/- The mathematics of one head of the mLSTM step over one sequence of 64 tokens, over the extended reals. -/
module

public import Idealize.ShloMosaic.Lib.Pointwise

@[expose] public section

noncomputable section

namespace Cert.MlMath

open Idealize.ShloMosaic

/-- The logarithm of the logistic function. -/
def lsg (x : EReal) : EReal := min x 0 - Ideal.log (1 + Ideal.exp (0 - max x (-x)))

/-- The running sum of the log forget gates. -/
def bc (f : Fin 64 → EReal) (t : Fin 64) : EReal := ∑ s, if s ≤ t then lsg (f s) else 0

/-- The largest of 64 numbers. -/
def sup (x : Fin 64 → EReal) : EReal := Finset.univ.fold max ⊥ x

/-- The log weight of token `s` at token `t`: nothing reaches an earlier token. -/
def lw (i f : Fin 64 → EReal) (t s : Fin 64) : EReal := if s ≤ t then bc f t - bc f s + i s else ⊥

/-- The stabiliser at token `t`, the weight of token `s` and of the previous state there. -/
def mt (i f : Fin 64 → EReal) (M : EReal) (t : Fin 64) : EReal := max (bc f t + M) (sup (lw i f t))
def wt (i f : Fin 64 → EReal) (M : EReal) (t s : Fin 64) : EReal := Ideal.exp (lw i f t s - mt i f M t)
def wi (i f : Fin 64 → EReal) (M : EReal) (t : Fin 64) : EReal := Ideal.exp (bc f t + M - mt i f M t)

/-- The new stabiliser, the decay of the previous state and the weight of token `s` in the new one. -/
def me (i f : Fin 64 → EReal) (M : EReal) : EReal := max (bc f 63 + M) (sup fun s => bc f 63 - bc f s + i s)
def de (i f : Fin 64 → EReal) (M : EReal) : EReal := Ideal.exp (bc f 63 + M - me i f M)
def gr (i f : Fin 64 → EReal) (M : EReal) (s : Fin 64) : EReal := Ideal.exp (bc f 63 - bc f s + i s - me i f M)

/-- The product of the query at `t` with the key at `s`. -/
def sc (q k : Fin 64 → Fin 128 → EReal) (t s : Fin 64) : EReal := ∑ e, q t e * k s e

/-- Numerator, normaliser and read-out at token `t`. -/
def nm (i f : Fin 64 → EReal) (M : EReal) (q k v : Fin 64 → Fin 128 → EReal) (C : Fin 128 → Fin 128 → EReal) (t : Fin 64)
    (d : Fin 128) : EReal :=
  wi i f M t * (∑ e, q t e * C e d) + ∑ s, wt i f M t s * sc q k t s * v s d
def dn (i f : Fin 64 → EReal) (M : EReal) (q k : Fin 64 → Fin 128 → EReal) (n : Fin 128 → EReal) (t : Fin 64) : EReal :=
  wi i f M t * (∑ e, q t e * n e) + ∑ s, wt i f M t s * sc q k t s
def hh (i f : Fin 64 → EReal) (M : EReal) (q k v : Fin 64 → Fin 128 → EReal) (C : Fin 128 → Fin 128 → EReal)
    (n : Fin 128 → EReal) (t : Fin 64) (d : Fin 128) : EReal :=
  Ideal.div (nm i f M q k v C t d) (max (max (dn i f M q k n t) (-dn i f M q k n t)) (Ideal.exp (-mt i f M t)))

/-- A row scaled by its reciprocal root mean square. -/
def rms (x : Fin 128 → EReal) (d : Fin 128) : EReal :=
  x d * Ideal.rsqrt (Ideal.div (∑ e, x e * x e) (Ideal.ofBits .f32 0x43000000#32) + Ideal.ofBits .f32 0x358637BD#32)

/-- The head's output: gated by the logistic of `mo`, with gain `g`. -/
def out (i f : Fin 64 → EReal) (M : EReal) (q k v : Fin 64 → Fin 128 → EReal) (C : Fin 128 → Fin 128 → EReal)
    (n : Fin 128 → EReal) (t : Fin 64) (mo g : Fin 128 → EReal) (d : Fin 128) : EReal :=
  Ideal.div 1 (1 + Ideal.exp (-mo d)) * (rms (hh i f M q k v C n t) d * g d)

/-- The new memory and the new normaliser. -/
def cn (i f : Fin 64 → EReal) (M : EReal) (k v : Fin 64 → Fin 128 → EReal) (C : Fin 128 → Fin 128 → EReal) (e d : Fin 128) : EReal :=
  de i f M * C e d + ∑ s, gr i f M s * k s e * v s d
def nn (i f : Fin 64 → EReal) (M : EReal) (k : Fin 64 → Fin 128 → EReal) (n : Fin 128 → EReal) (e : Fin 128) : EReal :=
  de i f M * n e + ∑ s, gr i f M s * k s e

/-! The log forget gate is at most zero. -/

theorem exp_bot : Ideal.exp ⊥ = 0 := rfl
theorem exp_top : Ideal.exp ⊤ = ⊤ := rfl
theorem exp2_bot : Ideal.exp2 ⊥ = 0 := rfl

theorem exp_nonneg (x : EReal) : 0 ≤ Ideal.exp x := by
  induction x with
  | bot => exact le_rfl
  | top => exact le_top
  | coe r => exact EReal.coe_nonneg.2 (Real.exp_pos r).le

theorem log_nonneg (x : EReal) : 0 ≤ Ideal.log (1 + Ideal.exp x) := by
  induction x with
  | bot =>
    rw [exp_bot, add_zero, show (1 : EReal) = ((1 : ℝ) : EReal) from rfl,
      show Ideal.log ((1 : ℝ) : EReal) = (if (1 : ℝ) ≤ 0 then ⊥ else (Real.log 1 : EReal)) from rfl, if_neg (by norm_num), Real.log_one]
    exact le_rfl
  | top =>
    rw [exp_top, EReal.add_top_of_ne_bot (by decide)]
    exact le_top
  | coe r =>
    have h : 0 < Real.exp r := Real.exp_pos r
    rw [show Ideal.exp (r : EReal) = (Real.exp r : EReal) from rfl, show (1 : EReal) = ((1 : ℝ) : EReal) from rfl, ← EReal.coe_add,
      show Ideal.log ((1 + Real.exp r : ℝ) : EReal) = (if 1 + Real.exp r ≤ 0 then ⊥ else (Real.log (1 + Real.exp r) : EReal)) from rfl,
      if_neg (by linarith)]
    exact EReal.coe_nonneg.2 (Real.log_nonneg (by linarith))

theorem lsg_le (x : EReal) : lsg x ≤ 0 := by
  unfold lsg
  refine (EReal.sub_le_sub (min_le_right _ _) (log_nonneg _)).trans ?_
  simp

/-- The reference's form of the log forget gate. -/
theorem lsg_neg (x : EReal) : -(max (-x) 0 + Ideal.log (1 + Ideal.exp (-max (-x) (- -x)))) = lsg x := by
  unfold lsg
  have h := log_nonneg (-max (-x) (- -x))
  have e : -max (-x) (- -x) = 0 - max x (-x) := by rw [zero_sub, neg_neg, max_comm]
  rw [e] at h ⊢
  rw [EReal.neg_add (.inl (ne_of_gt (lt_of_lt_of_le EReal.bot_lt_zero (le_max_right _ _))))
    (.inr (ne_of_gt (lt_of_lt_of_le EReal.bot_lt_zero h)))]
  congr 1
  rcases le_total x 0 with hx | hx
  · rw [min_eq_left hx, max_eq_left (by simpa using EReal.neg_le_neg_iff.2 hx), neg_neg]
  · rw [min_eq_right hx, max_eq_right (by simpa using EReal.neg_le_neg_iff.2 hx), neg_zero]

/-- A number at most zero is the sum of itself and what is left of it, twice. -/
theorem split (a : EReal) (h : a ≤ 0) : a + (a - a) + (a - a - (a - a)) = a := by
  induction a with
  | bot => simp
  | top => simp at h
  | coe r => norm_cast; ring_nf

/-- The three partial sums make up the running sum. -/
theorem bc_eq (f : Fin 64 → EReal) (u : Fin 64 → EReal) (t : Fin 64) (hu : ∀ s, u s = if s ≤ t then 1 else 0) :
    (∑ s, lsg (f s) * u s) + (∑ s, (lsg (f s) - lsg (f s)) * u s)
      + (∑ s, (lsg (f s) - lsg (f s) - (lsg (f s) - lsg (f s))) * u s) = bc f t := by
  unfold bc
  rw [← Finset.sum_add_distrib, ← Finset.sum_add_distrib]
  refine Finset.sum_congr rfl fun s _ => ?_
  rw [hu]
  split_ifs
  · simp only [mul_one]
    exact split _ (lsg_le _)
  · simp

/-! The largest entry. -/

theorem le_sup (x : Fin 64 → EReal) (s : Fin 64) : x s ≤ sup x := (Finset.le_fold_max _).2 (.inr ⟨s, Finset.mem_univ _, le_rfl⟩)

theorem sup_map (x : Fin 64 → EReal) (g : EReal → EReal) (hg : Monotone g) (hb : g ⊥ = ⊥) : g (sup x) = sup fun s => g (x s) := by
  unfold sup
  rw [← Finset.fold_hom (op' := max) (m := g) (fun _ _ => hg.map_max), hb]

theorem ln2_pos : 0 < Real.log 2 := Real.log_pos (by norm_num)

theorem lin_mono (b : EReal) : Monotone fun x : EReal => b + x * (Real.log 2 : EReal) := fun x y h =>
  add_le_add_right (mul_le_mul_of_nonneg_right h (EReal.coe_nonneg.2 ln2_pos.le)) b

theorem lin_bot (b : EReal) : b + ⊥ * ((Real.log 2 : ℝ) : EReal) = ⊥ := by rw [EReal.bot_mul_coe_of_pos ln2_pos, EReal.add_bot]

/-- The masked log weight to base two, less the running sum at `t`. -/
def c2 (i f : Fin 64 → EReal) (t s : Fin 64) : EReal := if s ≤ t then (i s - bc f s) * (((Real.log 2)⁻¹ : ℝ) : EReal) else ⊥

theorem lw_eq (i f : Fin 64 → EReal) (t s : Fin 64) : bc f t + c2 i f t s * ((Real.log 2 : ℝ) : EReal) = lw i f t s := by
  unfold c2 lw
  split_ifs
  · rw [mul_assoc, ← EReal.coe_mul, inv_mul_cancel₀ ln2_pos.ne', EReal.coe_one, mul_one, sub_eq_add_neg, sub_eq_add_neg, add_assoc,
      add_comm (i s)]
  · exact lin_bot _

theorem mi_eq (i f : Fin 64 → EReal) (t : Fin 64) : bc f t + sup (c2 i f t) * ((Real.log 2 : ℝ) : EReal) = sup (lw i f t) := by
  rw [sup_map (c2 i f t) (fun x => bc f t + x * ((Real.log 2 : ℝ) : EReal)) (lin_mono _) (lin_bot _)]
  exact congrArg sup (funext fun s => lw_eq i f t s)

theorem me_eq (i f : Fin 64 → EReal) (M : EReal) : max (bc f 63 + M) (sup fun s => bc f 63 + (i s - bc f s)) = me i f M := by
  unfold me
  congr 2
  funext s
  rw [sub_eq_add_neg, sub_eq_add_neg, add_assoc, add_comm (i s)]

/-! The two exponentials of a weight make up one. -/

theorem weight (b x X m : EReal) (hx : x ≤ X) (hm : b + X * ((Real.log 2 : ℝ) : EReal) ≤ m) :
    Ideal.exp2 (x - X) * Ideal.exp (b + X * ((Real.log 2 : ℝ) : EReal) - m)
      = Ideal.exp (b + x * ((Real.log 2 : ℝ) : EReal) - m) := by
  have hp := ln2_pos
  induction x with
  | bot => rw [lin_bot]; simp [exp_bot, exp2_bot]
  | top =>
    obtain rfl : X = ⊤ := top_le_iff.1 hx
    rw [EReal.top_mul_coe_of_pos hp] at hm ⊢
    induction b with
    | bot => simp [exp_bot, exp_top]
    | _ =>
      obtain rfl : m = ⊤ := by simpa using hm
      simp [exp_bot, exp_top]
  | coe x =>
    induction X with
    | bot => simp at hx
    | top =>
      rw [EReal.top_mul_coe_of_pos hp] at hm ⊢
      induction b with
      | bot => simp [exp_bot, exp_top]
      | _ =>
        obtain rfl : m = ⊤ := by simpa using hm
        simp [exp_bot, exp_top]
    | coe X =>
      induction b with
      | bot => simp [exp_bot, exp_top]
      | top =>
        rw [← EReal.coe_mul, EReal.top_add_coe, top_le_iff] at hm
        subst hm
        simp [exp_bot, exp_top]
      | coe b =>
        induction m with
        | bot => exact absurd hm (by rw [← EReal.coe_mul, ← EReal.coe_add]; exact not_le.2 (EReal.bot_lt_coe _))
        | top => simp [exp_bot, exp_top]
        | coe m =>
          rw [← EReal.coe_mul, ← EReal.coe_mul, ← EReal.coe_add, ← EReal.coe_add, ← EReal.coe_sub, ← EReal.coe_sub, ← EReal.coe_sub]
          show ((Real.rpow 2 (x - X) : ℝ) : EReal) * ((Real.exp _ : ℝ) : EReal) = ((Real.exp _ : ℝ) : EReal)
          rw [← EReal.coe_mul, show Real.rpow 2 (x - X) = Real.exp (Real.log 2 * (x - X)) from Real.rpow_def_of_pos (by norm_num) _,
            ← Real.exp_add]
          congr 2
          ring

/-- The scale of a sequence's own tokens is a finite number. -/
theorem scale_ne_top (a m : EReal) (h : a ≤ m) : Ideal.exp (a - m) ≠ ⊤ := by
  induction m with
  | bot => obtain rfl : a = ⊥ := le_bot_iff.1 h; simp [exp_bot, exp_top]
  | top => simp [exp_bot, exp_top]
  | coe m =>
    induction a with
    | bot => simp [exp_bot, exp_top]
    | top => simp at h
    | coe a => rw [← EReal.coe_sub]; exact EReal.coe_ne_top _

theorem sum_mul_of {ι : Type} (S : Finset ι) (x : ι → EReal) (r : EReal) (h0 : 0 ≤ r) (ht : r ≠ ⊤) : (∑ s ∈ S, x s) * r = ∑ s ∈ S, x s * r := by
  classical
  induction S using Finset.induction_on with
  | empty => simp
  | insert a S ha ih => rw [Finset.sum_insert ha, Finset.sum_insert ha, EReal.right_distrib_of_nonneg_of_ne_top h0 ht, ih]

/-- The kernel's scale, and a weight out of its two parts. -/
def rr (i f : Fin 64 → EReal) (M : EReal) (t : Fin 64) : EReal := Ideal.exp (sup (lw i f t) - mt i f M t)

theorem wt_eq (i f : Fin 64 → EReal) (M : EReal) (t s : Fin 64) :
    Ideal.exp2 (c2 i f t s - sup (c2 i f t)) * rr i f M t = wt i f M t s := by
  unfold rr wt
  rw [← mi_eq, ← lw_eq]
  exact weight _ _ _ _ (le_sup _ _) (by rw [mi_eq]; exact le_max_right _ _)

theorem sum_wt (i f : Fin 64 → EReal) (M : EReal) (t : Fin 64) (y : Fin 64 → EReal) :
    (∑ s, Ideal.exp2 (c2 i f t s - sup (c2 i f t)) * y s) * rr i f M t = ∑ s, wt i f M t s * y s := by
  rw [sum_mul_of _ _ (rr i f M t) (exp_nonneg _) (scale_ne_top _ _ (le_max_right _ _))]
  refine Finset.sum_congr rfl fun s _ => ?_
  rw [← wt_eq, mul_right_comm]

theorem sc_comm (q k : Fin 64 → Fin 128 → EReal) (t s : Fin 64) : (∑ e, k s e * q t e) = sc q k t s :=
  Finset.sum_congr rfl fun e _ => mul_comm _ _

theorem nm_eq (i f : Fin 64 → EReal) (M : EReal) (q k v : Fin 64 → Fin 128 → EReal) (C : Fin 128 → Fin 128 → EReal) (t : Fin 64)
    (d : Fin 128) :
    (∑ s, v s d * (Ideal.exp2 (c2 i f t s - sup (c2 i f t)) * sc q k t s)) * rr i f M t + (∑ e, C e d * q t e) * wi i f M t
      = nm i f M q k v C t d := by
  unfold nm
  rw [add_comm, mul_comm (∑ e, C e d * q t e)]
  refine congrArg₂ _ (congrArg₂ _ rfl (Finset.sum_congr rfl fun e _ => mul_comm _ _)) ?_
  rw [show (∑ s, v s d * (Ideal.exp2 (c2 i f t s - sup (c2 i f t)) * sc q k t s))
    = ∑ s, Ideal.exp2 (c2 i f t s - sup (c2 i f t)) * (sc q k t s * v s d) from
      Finset.sum_congr rfl fun s _ => by rw [mul_comm, mul_assoc], sum_wt]
  exact Finset.sum_congr rfl fun s _ => (mul_assoc _ _ _).symm

theorem dn_eq (i f : Fin 64 → EReal) (M : EReal) (q k : Fin 64 → Fin 128 → EReal) (n : Fin 128 → EReal) (t : Fin 64) :
    (∑ s, Ideal.exp2 (c2 i f t s - sup (c2 i f t)) * sc q k t s) * rr i f M t + (∑ e, n e * q t e) * wi i f M t
      = dn i f M q k n t := by
  unfold dn
  rw [add_comm, mul_comm (∑ e, n e * q t e), sum_wt]
  exact congrArg₂ _ (congrArg₂ _ rfl (Finset.sum_congr rfl fun e _ => mul_comm _ _)) rfl

/-! The reciprocal of the normaliser and the quotient: they differ where every weight is zero, and there the normed row is zero. -/

theorem c128 : Ideal.ofBits .f32 0x43000000#32 = ((128 : ℝ) : EReal) := by
  simp [Ideal.ofBits, Ideal.ieee, -EReal.coe_mul]; norm_num

theorem eps_ne : Ideal.ofBits .f32 0x358637BD#32 ≠ ⊥ := by
  simp [Ideal.ofBits, Ideal.ieee, -EReal.coe_mul]

theorem rms_zero (x : Fin 128 → EReal) (d : Fin 128) (h : x d = 0) : rms x d = 0 := by
  unfold rms
  rw [h, zero_mul]

theorem rms_bot (x : Fin 128 → EReal) (d : Fin 128) (h : ∀ d, x d = ⊥) : rms x d = 0 := by
  unfold rms
  have e : (∑ e, x e * x e) = ⊤ := by
    simp only [h, EReal.bot_mul_bot]
    rw [Finset.sum_const]
    rw [EReal.nsmul_eq_mul]
    exact EReal.coe_mul_top_of_pos (by simp)
  have e2 : Ideal.div ⊤ (Ideal.ofBits .f32 0x43000000#32) = ⊤ := by
    rw [c128, Ideal.div, if_neg (by norm_num), ← EReal.coe_inv]
    exact EReal.top_mul_coe_of_pos (by norm_num)
  rw [e, e2, EReal.top_add_of_ne_bot eps_ne]
  exact mul_zero _

theorem exp_neg_ne (m : EReal) (h : m ≠ ⊤) : Ideal.exp (-m) ≠ 0 := by
  induction m with
  | bot => simp [exp_bot, exp_top]
  | top => exact absurd rfl h
  | coe m =>
    rw [← EReal.coe_neg]
    exact (EReal.coe_pos.2 (Real.exp_pos (-m))).ne'

theorem rms_eq (i f : Fin 64 → EReal) (M : EReal) (q k v : Fin 64 → Fin 128 → EReal) (C : Fin 128 → Fin 128 → EReal)
    (n : Fin 128 → EReal) (t : Fin 64) (d : Fin 128) :
    rms (fun d => nm i f M q k v C t d * Ideal.div 1 (max (max (dn i f M q k n t) (-dn i f M q k n t)) (Ideal.exp (0 - mt i f M t)))) d
      = rms (hh i f M q k v C n t) d := by
  rw [zero_sub]
  by_cases h : mt i f M t = ⊤
  · have hw : ∀ s, wt i f M t s = 0 := fun s => by unfold wt; rw [h]; simp [exp_bot, exp_top]
    have hi : wi i f M t = 0 := by unfold wi; rw [h]; simp [exp_bot, exp_top]
    have hn : ∀ d, nm i f M q k v C t d = 0 := fun d => by unfold nm; simp [hw, hi]
    have hd : dn i f M q k n t = 0 := by unfold dn; simp [hw, hi]
    rw [rms_zero _ _ (by rw [hn, zero_mul]), rms_bot]
    intro d
    unfold hh
    rw [hn, hd, h]
    simp [Ideal.div, exp_bot]
  · refine congrArg (fun x => rms x d) (funext fun d => ?_)
    have hne : max (max (dn i f M q k n t) (-dn i f M q k n t)) (Ideal.exp (-mt i f M t)) ≠ 0 :=
      ne_of_gt (lt_of_lt_of_le (lt_of_le_of_ne (exp_nonneg _) (exp_neg_ne _ h).symm) (le_max_right _ _))
    unfold hh Ideal.div
    rw [if_neg hne, if_neg hne, one_mul]

theorem gr_eq (i f : Fin 64 → EReal) (M : EReal) (s : Fin 64) : Ideal.exp (bc f 63 + (i s - bc f s) - me i f M) = gr i f M s := by
  unfold gr
  rw [sub_eq_add_neg (i s), sub_eq_add_neg (bc f 63), add_assoc (bc f 63), add_comm (i s)]

theorem cn_eq (i f : Fin 64 → EReal) (M : EReal) (k v : Fin 64 → Fin 128 → EReal) (C : Fin 128 → Fin 128 → EReal) (e d : Fin 128) :
    de i f M * C e d + (∑ s, v s d * gr i f M s * k s e) = cn i f M k v C e d := by
  unfold cn
  refine congrArg₂ _ rfl (Finset.sum_congr rfl fun s _ => ?_)
  rw [mul_assoc, mul_comm]

/-! One sequence, from its gates `g`, stabilisers `M`, memories `C` and normalisers `n`, a row of 512 holding four heads of 128. -/

/-- Entry `d` of head `h` in a row of four heads. -/
def hd (h : Fin 4) (d : Fin 128) : Fin 512 := ⟨h.val * 128 + d.val, by omega⟩
/-- The input gate's and the forget gate's lane of head `h`. -/
def il (h : Fin 4) : Fin 128 := ⟨h.val, by omega⟩
def fl (h : Fin 4) : Fin 128 := ⟨8 + h.val, by omega⟩

def seqOut (g : Fin 64 → Fin 128 → EReal) (M : Fin 4 → EReal) (q k v : Fin 64 → Fin 512 → EReal)
    (C : Fin 4 → Fin 128 → Fin 128 → EReal) (n : Fin 4 → Fin 128 → EReal) (mo : Fin 64 → Fin 512 → EReal) (gm : Fin 512 → EReal)
    (h : Fin 4) (t : Fin 64) (d : Fin 128) : EReal :=
  out (fun s => g s (il h)) (fun s => g s (fl h)) (M h) (fun t e => q t (hd h e)) (fun t e => k t (hd h e)) (fun t e => v t (hd h e))
    (C h) (n h) t (fun e => mo t (hd h e)) (fun e => gm (hd h e)) d
def seqC (g : Fin 64 → Fin 128 → EReal) (M : Fin 4 → EReal) (k v : Fin 64 → Fin 512 → EReal)
    (C : Fin 4 → Fin 128 → Fin 128 → EReal) (h : Fin 4) (e d : Fin 128) : EReal :=
  cn (fun s => g s (il h)) (fun s => g s (fl h)) (M h) (fun t e => k t (hd h e)) (fun t e => v t (hd h e)) (C h) e d
def seqN (g : Fin 64 → Fin 128 → EReal) (M : Fin 4 → EReal) (k : Fin 64 → Fin 512 → EReal) (n : Fin 4 → Fin 128 → EReal)
    (h : Fin 4) (e : Fin 128) : EReal :=
  nn (fun s => g s (il h)) (fun s => g s (fl h)) (M h) (fun t e => k t (hd h e)) (n h) e
def seqM (g : Fin 64 → Fin 128 → EReal) (M : Fin 4 → EReal) (h : Fin 4) : EReal :=
  me (fun s => g s (il h)) (fun s => g s (fl h)) (M h)

end Cert.MlMath

end
-- ==== Proof.MlPay.lean ====
/- The mLSTM call's vector operations read at an entry: they are the step of `MlMath`. -/
module

public import proofs.«01_k».proof.Proof.MlDefs
public import proofs.«01_k».proof.Proof.MlMath

@[expose] public section

set_option maxRecDepth 16384

noncomputable section

namespace Cert.MlPay

open Cert.KernelIdeal Cert.KernelIdeal.Gen Cert.FfnMath Cert.MlMath Cert.MlDefs Idealize.ShloMosaic Idealize.ShloMosaic.TcCoe Idealize.SL.Sem

/-- The input gates and the forget gates of row `h` of the gates' block. -/
abbrev ig (g : Vec Ideal S1x64x128 .f32) (h : Fin 8) (s : Fin 64) : EReal := g (ix3 0 s ⟨h.val, by omega⟩)
abbrev fg (g : Vec Ideal S1x64x128 .f32) (h : Fin 8) (s : Fin 64) : EReal := g (ix3 0 s ⟨8 + h.val, by omega⟩)

/-! Constants and choices. -/

theorem c_log2e : Named.named (F := Ideal) (φ := .f32) κ "log2e" 1069066811#32 = (((Real.log 2)⁻¹ : ℝ) : EReal) := rfl
theorem c_ln2 : Named.named (F := Ideal) (φ := .f32) κ "ln2" 1060205080#32 = ((Real.log 2 : ℝ) : EReal) := rfl
theorem c_mask : Named.named (F := Ideal) (φ := .f32) κ "mask" 4048155338#32 = (⊥ : EReal) := rfl
theorem c_ninf : Ideal.ofBits .f32 4286578688#32 = ⊥ := by simp [Ideal.ofBits, Ideal.ieee]

theorem sle_eq : ∀ s t : Fin 64, IntOp.cmpi .sle (BitVec.ofNat 32 s.val) (BitVec.ofNat 32 t.val) = if s ≤ t then 1#1 else 0#1 := by
  decide +kernel

theorem sel_le (s t : Fin 64) (a b : EReal) :
    Scalar.select (IntOp.cmpi .sle (BitVec.ofNat 32 s.val) (BitVec.ofNat 32 t.val)) a b = if s ≤ t then a else b := by
  rw [sle_eq]
  split_ifs <;> rfl

theorem seq_eq : ∀ i j : Fin 8, IntOp.cmpi .eq (BitVec.ofNat 32 i.val) (BitVec.ofNat 32 j.val) = if i = j then 1#1 else 0#1 := by
  decide +kernel

theorem sel_eq (i j : Fin 8) (a b : EReal) :
    Scalar.select (IntOp.cmpi .eq (BitVec.ofNat 32 i.val) (BitVec.ofNat 32 j.val)) a b = if i = j then a else b := by
  rw [seq_eq]
  split_ifs <;> rfl

/-! Row `h` of the gates. -/

theorem lf_at (g : Vec Ideal S1x64x128 .f32) (i : Fin 8) (t : Fin 64) : k0_pay10 (F := Ideal) g (ix2 i t) = lsg (fg g i t) := by
  unfold k0_pay10 k0_pay8
  pointwise
  rfl

theorem up_at (s t : Fin 64) : k0_pay7 (F := Ideal) (ix2 s t) = if s ≤ t then 1 else 0 := by
  unfold k0_pay7 k0_pay6
  pointwise
  exact sel_le s t 1 0

theorem ig_at (g : Vec Ideal S1x64x128 .f32) (i : Fin 8) (t : Fin 64) : k0_pay9 (F := Ideal) g (ix2 i t) = ig g i t := by
  unfold k0_pay9 k0_pay8
  pointwise

theorem B_at (g : Vec Ideal S1x64x128 .f32) (i : Fin 8) (t : Fin 64) : Bv g (ix2 i t) = bc (fg g i) t := by
  have h := bc_eq (fg g i) (fun s => k0_pay7 (F := Ideal) (ix2 s t)) t (fun s => up_at s t)
  simp only [← lf_at] at h
  refine Eq.trans ?_ h
  unfold Bv k0_pay15 k0_pay14 k0_pay13 k0_pay12 k0_pay11
  generalize k0_pay10 (F := Ideal) g = L
  generalize k0_pay7 (F := Ideal) = u
  pointwise

theorem C_at (g : Vec Ideal S1x64x128 .f32) (i : Fin 8) (t : Fin 64) : Cv g (ix2 i t) = ig g i t - bc (fg g i) t := by
  rw [← B_at, ← ig_at]
  unfold Cv k0_pay16
  rfl

theorem C2_at (g : Vec Ideal S1x64x128 .f32) (t : Fin 64) (h : Fin 8) :
    C2 g (ix2 t ⟨h.val, by omega⟩) = (ig g h t - bc (fg g h) t) * (((Real.log 2)⁻¹ : ℝ) : EReal) := by
  rw [← C_at, ← c_log2e]
  unfold C2 k0_pay17 Cv
  generalize k0_pay16 (F := Ideal) _ _ _ _ _ = L
  pointwise

theorem Mk_at (y : FVec Ideal S64x1 .f32) (s t : Fin 64) : Mk y (ix2 s t) = if s ≤ t then y (ix2 s 0) else ⊥ := by
  unfold Mk k0_pay6
  pointwise
  rw [c_mask]
  exact sel_le s t _ _

/-- `R` picks row `h`, `K` picks column `h`, `D` picks the decay of row `h`. -/
theorem row_at (h : Fin 8) (hs) (x : FVec Ideal S8x64 .f32) (t : Fin 64) : rowH h.val hs x (ix2 0 t) = x (ix2 h t) := by
  unfold rowH extractStridedSlice
  refine congrArg x (funext fun a => ?_)
  fin_cases a <;> apply Fin.ext <;> simp [ix2]

theorem col_at (h : Fin 8) (hs) (x : FVec Ideal S64x128 .f32) (t : Fin 64) : colH h.val hs x (ix2 t 0) = x (ix2 t ⟨h.val, by omega⟩) := by
  unfold colH extractStridedSlice
  refine congrArg x (funext fun a => ?_)
  fin_cases a <;> apply Fin.ext <;> simp [ix2]

theorem dec_at (h : Fin 8) (hs) (x : FVec Ideal S8x1 .f32) : decH h.val hs x (ix2 0 0) = x (ix2 h 0) := by
  unfold decH extractStridedSlice
  refine congrArg x (funext fun a => ?_)
  fin_cases a <;> apply Fin.ext <;> simp [ix2]

theorem msk_at (g : Vec Ideal S1x64x128 .f32) (h : Fin 8) (hs) (s t : Fin 64) :
    Mk (colH h.val hs (C2 g)) (ix2 s t) = c2 (ig g h) (fg g h) t s := by
  rw [Mk_at, col_at, C2_at]
  rfl

/-- The largest entries of four masked sets, and zeros. -/
theorem max_at (g : Vec Ideal S1x64x128 .f32) (y0 y1 y2 y3 : FVec Ideal S64x64 .f32) (hc) (i : Fin 8) (t : Fin 64) :
    concatenate S8x64 0 [⟨S1x64, shapeCast S1x64 (multiReduction .maximumf [0] S64 y0 0xFF800000#32 reduces_S64x64_S64 (.inl rfl) rfl) shapeCasts_S64_S1x64⟩,
      ⟨S1x64, shapeCast S1x64 (multiReduction .maximumf [0] S64 y1 0xFF800000#32 reduces_S64x64_S64 (.inl rfl) rfl) shapeCasts_S64_S1x64⟩,
      ⟨S1x64, shapeCast S1x64 (multiReduction .maximumf [0] S64 y2 0xFF800000#32 reduces_S64x64_S64 (.inl rfl) rfl) shapeCasts_S64_S1x64⟩,
      ⟨S1x64, shapeCast S1x64 (multiReduction .maximumf [0] S64 y3 0xFF800000#32 reduces_S64x64_S64 (.inl rfl) rfl) shapeCasts_S64_S1x64⟩,
      ⟨S4x64, broadcast S4x64 (Scalar.ofBits (F := Ideal) .f32 0x00000000#32)⟩] hc (ix2 i t)
    = if i.val < 1 then sup (fun s => y0 (ix2 s t)) else if i.val - 1 < 1 then sup (fun s => y1 (ix2 s t))
      else if i.val - 1 - 1 < 1 then sup (fun s => y2 (ix2 s t)) else if i.val - 1 - 1 - 1 < 1 then sup (fun s => y3 (ix2 s t)) else 0 := by
  pointwise
  rw [c_ninf]
  rfl

theorem Mx_at (g : Vec Ideal S1x64x128 .f32) (h : Fin 8) (hh : h.val < 4) (t : Fin 64) :
    Mx g (ix2 h t) = sup (c2 (ig g h) (fg g h) t) := by
  refine (max_at g (Mk (colH (0 : Fin 8).val (by decide) (C2 g))) (Mk (colH (1 : Fin 8).val (by decide) (C2 g)))
    (Mk (colH (2 : Fin 8).val (by decide) (C2 g))) (Mk (colH (3 : Fin 8).val (by decide) (C2 g))) concatenates_S1x64_S1x64_S1x64_S1x64_S4x64_S8x64_d0 h t).trans ?_
  simp only [msk_at]
  obtain ⟨n, hn⟩ := h
  have : n < 4 := hh
  interval_cases n <;> rfl

theorem Mi_at (g : Vec Ideal S1x64x128 .f32) (h : Fin 8) (hh : h.val < 4) (t : Fin 64) :
    Mi g (ix2 h t) = sup (lw (ig g h) (fg g h) t) := by
  rw [← mi_eq, ← Mx_at g h hh, ← B_at, ← c_ln2]
  unfold Mi k0_pay24 k0_pay23
  pointwise

theorem Mt_at (g : Vec Ideal S1x64x128 .f32) (mm : Vec Ideal S1x8x128 .f32) (h : Fin 8) (hh : h.val < 4) (t : Fin 64) :
    Mt g mm (ix2 h t) = MlMath.mt (ig g h) (fg g h) (mm (ix3 0 h 0)) t := by
  unfold MlMath.mt
  rw [← Mi_at g h hh, ← B_at]
  unfold Mt k0_pay106 k0_pay105 k0_pay101
  pointwise

theorem Rw_at (g : Vec Ideal S1x64x128 .f32) (mm : Vec Ideal S1x8x128 .f32) (h : Fin 8) (hh : h.val < 4) (t : Fin 64) :
    Rw g mm (ix2 h t) = rr (ig g h) (fg g h) (mm (ix3 0 h 0)) t := by
  unfold rr
  rw [← Mi_at g h hh, ← Mt_at g mm h hh]
  unfold Rw k0_pay109
  pointwise

theorem Ww_at (g : Vec Ideal S1x64x128 .f32) (mm : Vec Ideal S1x8x128 .f32) (h : Fin 8) (hh : h.val < 4) (t : Fin 64) :
    Ww g mm (ix2 h t) = wi (ig g h) (fg g h) (mm (ix3 0 h 0)) t := by
  unfold wi
  rw [← B_at, ← Mt_at g mm h hh]
  unfold Ww k0_pay110 k0_pay105 k0_pay101
  pointwise

theorem Fw_at (g : Vec Ideal S1x64x128 .f32) (mm : Vec Ideal S1x8x128 .f32) (h : Fin 8) (hh : h.val < 4) (t : Fin 64) :
    Fw g mm (ix2 h t) = Ideal.exp (0 - MlMath.mt (ig g h) (fg g h) (mm (ix3 0 h 0)) t) := by
  rw [← Mt_at g mm h hh]
  unfold Fw k0_pay111
  pointwise

theorem Me_at (g : Vec Ideal S1x64x128 .f32) (mm : Vec Ideal S1x8x128 .f32) (h : Fin 8) :
    Me g mm (ix2 h 0) = me (ig g h) (fg g h) (mm (ix3 0 h 0)) := by
  rw [← me_eq]
  unfold Me k0_pay103 k0_pay102 k0_pay101 k0_pay100
  pointwise
  simp only [c_ninf, C_at, B_at]
  rfl

theorem De_at (g : Vec Ideal S1x64x128 .f32) (mm : Vec Ideal S1x8x128 .f32) (h : Fin 8) :
    De g mm (ix2 h 0) = de (ig g h) (fg g h) (mm (ix3 0 h 0)) := by
  unfold de
  rw [← Me_at, ← B_at]
  unfold De Me k0_pay107 k0_pay101 k0_pay100
  pointwise

theorem Gr_at (g : Vec Ideal S1x64x128 .f32) (mm : Vec Ideal S1x8x128 .f32) (h : Fin 8) (s : Fin 64) :
    Gr g mm (ix2 h s) = gr (ig g h) (fg g h) (mm (ix3 0 h 0)) s := by
  rw [← gr_eq, ← Me_at, ← C_at, ← B_at]
  unfold Gr Me k0_pay104 k0_pay102 k0_pay100
  pointwise

/-! The blocks one sequence and one head write. -/

theorem Hr_at (msk : FVec Ideal S64x64 .f32) (cr : FVec Ideal S1x64 .f32) (s : FVec Ideal S64x64 .f32) (vt : FVec Ideal S128x64 .f32)
    (r w fl : FVec Ideal S1x64 .f32) (cq : FVec Ideal S128x64 .f32) (nq : FVec Ideal S1x64 .f32) (d : Fin 128) (t : Fin 64) :
    Hr msk cr s vt r w fl cq nq (ix2 d t)
      = ((∑ x, vt (ix2 d x) * (Ideal.exp2 (msk (ix2 x t) - cr (ix2 0 t)) * s (ix2 x t))) * r (ix2 0 t) + cq (ix2 d t) * w (ix2 0 t))
        * Ideal.div 1 (max (max ((∑ x, Ideal.exp2 (msk (ix2 x t) - cr (ix2 0 t)) * s (ix2 x t)) * r (ix2 0 t) + nq (ix2 0 t) * w (ix2 0 t))
          (-((∑ x, Ideal.exp2 (msk (ix2 x t) - cr (ix2 0 t)) * s (ix2 x t)) * r (ix2 0 t) + nq (ix2 0 t) * w (ix2 0 t)))) (fl (ix2 0 t))) := by
  unfold Hr
  pointwise
  rfl

theorem Ho_at (h : FVec Ideal S128x64 .f32) (gm : Vec Ideal S1x128 .f32) (mo : Vec Ideal S1x64x128 .f32) (t : Fin 64) (e : Fin 128) :
    Ho h gm mo (ix3 0 t e)
      = Ideal.div 1 (1 + Ideal.exp (-mo (ix3 0 t e))) * (rms (fun d => h (ix2 d t)) e * gm (ix2 0 e)) := by
  unfold Ho k0_pay224
  pointwise
  rw [zero_sub]
  rfl

theorem S_at (q k : Vec Ideal S1x64x128 .bf16) (s t : Fin 64) :
    k0_pay66 k q (ix2 s t) = sc (fun t e => q (ix3 0 t e)) (fun s e => k (ix3 0 s e)) t s := by
  rw [← sc_comm]
  unfold k0_pay66
  pointwise

theorem v_at (v : Vec Ideal S1x64x128 .bf16) (d : Fin 128) (s : Fin 64) : k0_pay67 v (ix2 d s) = v (ix3 0 s d) := by
  unfold k0_pay67
  pointwise

theorem cq_at (q : Vec Ideal S1x64x128 .bf16) (c : Vec Ideal S1x1x128x128 .f32) (d : Fin 128) (t : Fin 64) :
    k0_pay156 q c (ix2 d t) = ∑ e, c (ix4 0 0 e d) * q (ix3 0 t e) := by
  unfold k0_pay156 k0_pay155 k0_pay154
  pointwise

theorem nq_at (q : Vec Ideal S1x64x128 .bf16) (n : Vec Ideal S1x8x128 .f32) (i : Fin 8) (t : Fin 64) :
    matmul (F := Ideal) dot_S8x128_S64x128_S8x64_1_1_0_0_n_n none (k0_pay112 n) (k0_pay154 q) (constant S8x64 .f32 0x00000000#32) (ix2 i t)
      = ∑ e, n (ix3 0 i e) * q (ix3 0 t e) := by
  unfold k0_pay112 k0_pay154
  pointwise

theorem Hm_at (h : Fin 8) (hh : h.val < 4) (hr) (hk) (g : Vec Ideal S1x64x128 .f32) (mm n : Vec Ideal S1x8x128 .f32)
    (q k v : Vec Ideal S1x64x128 .bf16) (c : Vec Ideal S1x1x128x128 .f32) (gm : Vec Ideal S1x128 .f32) (mo : Vec Ideal S1x64x128 .f32)
    (t : Fin 64) (e : Fin 128) :
    HmB (rowH h.val hr) (colH h.val hk) g mm n q k v c gm mo (ix3 0 t e)
      = out (ig g h) (fg g h) (mm (ix3 0 h 0)) (fun t e => q (ix3 0 t e)) (fun t e => k (ix3 0 t e)) (fun t e => v (ix3 0 t e))
        (fun e d => c (ix4 0 0 e d)) (fun e => n (ix3 0 h e)) t (fun e => mo (ix3 0 t e)) (fun e => gm (ix2 0 e)) e := by
  unfold HmB out
  rw [Ho_at, ← rms_eq]
  simp only [Hr_at, msk_at, row_at, Mx_at g h hh, Rw_at g mm h hh, Ww_at g mm h hh, Fw_at g mm h hh, S_at, v_at, cq_at, nq_at, nm_eq]
  rw [dn_eq]
  exact congrArg₂ _ rfl (congrArg₂ _ (congrArg (fun x => rms x e) (funext fun d => congrArg₂ _ (nm_eq _ _ _ _ _
    (fun t e => v (ix3 0 t e)) (fun e d => c (ix4 0 0 e d)) t d) rfl)) rfl)

theorem C_new_at (h : Fin 8) (hr) (hd) (g : Vec Ideal S1x64x128 .f32) (mm : Vec Ideal S1x8x128 .f32)
    (k v : Vec Ideal S1x64x128 .bf16) (c : Vec Ideal S1x1x128x128 .f32) (e d : Fin 128) :
    CB (rowH h.val hr) (decH h.val hd) g mm k v c (ix4 0 0 e d)
      = cn (ig g h) (fg g h) (mm (ix3 0 h 0)) (fun t e => k (ix3 0 t e)) (fun t e => v (ix3 0 t e)) (fun e d => c (ix4 0 0 e d)) e d := by
  rw [← cn_eq]
  simp only [← Gr_at g mm h, ← De_at g mm h, ← row_at h hr, ← dec_at h hd]
  unfold CB k0_pay155 k0_pay222 k0_pay67
  generalize rowH h.val hr (Gr g mm) = x
  generalize decH h.val hd (De g mm) = y
  pointwise

theorem Nu_at (j : Fin 8) (gb : FVec Ideal S8x64 .bf16) (k : Vec Ideal S1x64x128 .bf16) (i : Fin 8) (e : Fin 128) :
    Nu (BitVec.ofNat 32 j.val) gb k (ix2 i e) = if i = j then ∑ s, gb (ix2 i s) * k (ix3 0 s e) else 0 := by
  unfold Nu k0_pay222
  pointwise
  exact sel_eq i j _ _

theorem n_at (a : FVec Ideal S8x1 .f32) (b0 b1 b2 b3 : FVec Ideal S8x128 .f32) (n : Vec Ideal S1x8x128 .f32) (i : Fin 8) (j : Fin 128) :
    k0_pay2 a (addf (addf (addf (addf (broadcast S8x128 (Scalar.ofBits .f32 0x00000000#32)) b0) b1) b2) b3) n (ix3 0 i j)
      = a (ix2 i 0) * n (ix3 0 i j) + (b0 (ix2 i j) + b1 (ix2 i j) + b2 (ix2 i j) + b3 (ix2 i j)) := by
  unfold k0_pay2
  pointwise

theorem N_new_at (h : Fin 8) (hh : h.val < 4) (g : Vec Ideal S1x64x128 .f32) (mm n : Vec Ideal S1x8x128 .f32)
    (k : Fin 4 → Vec Ideal S1x64x128 .bf16) (e : Fin 128) :
    NB g mm n (k 0) (k 1) (k 2) (k 3) (ix3 0 h e)
      = nn (ig g h) (fg g h) (mm (ix3 0 h 0)) (fun t e => k ⟨h.val, hh⟩ (ix3 0 t e)) (fun e => n (ix3 0 h e)) e := by
  unfold NB nn
  rw [n_at, De_at]
  have hg : ∀ s, k0_pay108 (F := Ideal) (Bv g) (Cv g) mm (ix2 h s) = gr (ig g h) (fg g h) (mm (ix3 0 h 0)) s := fun s => Gr_at g mm h s
  refine congrArg₂ _ rfl ?_
  have e0 := Nu_at 0 (k0_pay108 (F := Ideal) (Bv g) (Cv g) mm) (k 0) h e
  have e1 := Nu_at 1 (k0_pay108 (F := Ideal) (Bv g) (Cv g) mm) (k 1) h e
  have e2 := Nu_at 2 (k0_pay108 (F := Ideal) (Bv g) (Cv g) mm) (k 2) h e
  have e3 := Nu_at 3 (k0_pay108 (F := Ideal) (Bv g) (Cv g) mm) (k 3) h e
  simp only [hg] at e0 e1 e2 e3
  refine (congrArg₂ _ (congrArg₂ _ (congrArg₂ _ e0 e1) e2) e3).trans ?_
  obtain ⟨j, hj⟩ := h
  have : j < 4 := hh
  interval_cases j <;> simp

theorem M_new_at (h : Fin 8) (g : Vec Ideal S1x64x128 .f32) (mm : Vec Ideal S1x8x128 .f32) (e : Fin 128) :
    MB g mm (ix3 0 h e) = me (ig g h) (fg g h) (mm (ix3 0 h 0)) := by
  rw [← Me_at]
  unfold MB k0_pay1
  generalize Me g mm = x
  pointwise

end Cert.MlPay

end
-- ==== Proof.MlBlock.lean ====
/- What one grid point of the mLSTM call writes: four sequences. -/
module

public import proofs.«01_k».proof.Proof.Gen.KernelIdeal.Value
public import proofs.«01_k».proof.Proof.MlPay

@[expose] public section

set_option maxRecDepth 16384

noncomputable section

namespace Cert.MlBlock

open Cert.KernelIdeal Cert.KernelIdeal.Gen Cert.FfnMath Cert.MlMath Cert.MlDefs Cert.MlPay Idealize.ShloMosaic Idealize.ShloMosaic.TcCoe Idealize.SL.Sem
open Idealize.ShloMosaic.Pipeline (Dat)

/-- One more piece, whose value `p` is `p'`, a block of `G`. -/
theorem pieces_step {s : Shape} {e : EltTy} {Val : EltTy → Type} {G : s.Idx → Val e} {r : Rect s} {p : r.shape.Idx → Val e}
    (p' : r.shape.Idx → Val e) {L : List (View.Piece Val s e)} (h : p = p') (h' : ∀ x, p' x = G (r.emb x)) (hL : View.PiecesOf G L) :
    View.PiecesOf G (⟨r, p⟩ :: L) :=
  pieces_cons (fun x => (congrFun h x).trans (h' x)) hL

/-- Four pieces that are blocks of `G` and cover the shape, over whatever was there before. -/
theorem canon_four {s : Shape} {e : EltTy} {Val : EltTy → Type} [∀ e, Nonempty (Val e)] (G : s.Idx → Val e)
    (a b c d : View.Piece Val s e) (L : List (View.Piece Val s e)) (h : View.PiecesOf G [a, b, c, d])
    (hc : ∀ y, ∃ p ∈ [a, b, c, d], y ∈ p.1.set) : View.canon (a :: b :: c :: d :: L) = G :=
  funext fun y => View.canon_append_of_piecesOf G L [a, b, c, d] h y (hc y)

/-! Sequence `b`'s part of a block, and head `h`'s part of that. -/

theorem inb3 {A B C b o : Nat} (hb : b < 4) (ho : o + C ≤ A) :
    ∀ a, (![b, 0, o] : Fin 3 → Nat) a + (⟨3, ![1, B, C]⟩ : Shape).size a ≤ (⟨3, ![4, B, A]⟩ : Shape).size a := by
  intro a; fin_cases a <;> simp <;> omega
theorem inb4 {b h : Nat} (hb : b < 4) (hh : h < 4) :
    ∀ a, (![b, h, 0, 0] : Fin 4 → Nat) a + S1x1x128x128.size a ≤ S4x4x128x128.size a := by
  intro a; fin_cases a <;> simp [S1x1x128x128, S4x4x128x128] <;> omega
theorem inb2 {h : Nat} (hh : h < 4) : ∀ a, (![0, h * 128] : Fin 2 → Nat) a + S1x128.size a ≤ S1x512.size a := by
  intro a; fin_cases a <;> simp [S1x128, S1x512] <;> omega

def gB (X : Vec Ideal S4x64x128 .f32) (b : Nat) (hb : b < 4 := by decide) : Vec Ideal S1x64x128 .f32 :=
  View.ld (Val := Elt Ideal) (e' := .f32) X (Rect.unit (s := S4x64x128) ![b, 0, 0] ![1, 64, 128] (inb3 hb (by decide)))
def mB (X : Vec Ideal S4x8x128 .f32) (b : Nat) (hb : b < 4 := by decide) : Vec Ideal S1x8x128 .f32 :=
  View.ld (Val := Elt Ideal) (e' := .f32) X (Rect.unit (s := S4x8x128) ![b, 0, 0] ![1, 8, 128] (inb3 hb (by decide)))
def qB (X : Vec Ideal S4x64x512 .bf16) (b h : Nat) (hb : b < 4 := by decide) (hh : h < 4 := by decide) : Vec Ideal S1x64x128 .bf16 :=
  View.ld (Val := Elt Ideal) (e' := .bf16) X (Rect.unit (s := S4x64x512) ![b, 0, h * 128] ![1, 64, 128] (inb3 hb (by omega)))
def oB (X : Vec Ideal S4x64x512 .f32) (b h : Nat) (hb : b < 4 := by decide) (hh : h < 4 := by decide) : Vec Ideal S1x64x128 .f32 :=
  View.ld (Val := Elt Ideal) (e' := .f32) X (Rect.unit (s := S4x64x512) ![b, 0, h * 128] ![1, 64, 128] (inb3 hb (by omega)))
def cB (X : Vec Ideal S4x4x128x128 .f32) (b h : Nat) (hb : b < 4 := by decide) (hh : h < 4 := by decide) : Vec Ideal S1x1x128x128 .f32 :=
  View.ld (Val := Elt Ideal) (e' := .f32) X (Rect.unit (s := S4x4x128x128) ![b, h, 0, 0] ![1, 1, 128, 128] (inb4 hb hh))
def rB (X : Vec Ideal S1x512 .f32) (h : Nat) (hh : h < 4 := by decide) : Vec Ideal S1x128 .f32 :=
  View.ld (Val := Elt Ideal) (e' := .f32) X (Rect.unit (s := S1x512) ![0, h * 128] ![1, 128] (inb2 hh))

theorem gB_at (X : Vec Ideal S4x64x128 .f32) (b : Nat) (hb) (s : Fin 64) (l : Fin 128) : gB X b hb (ix3 0 s l) = X (ix3 ⟨b, hb⟩ s l) := by
  refine congrArg X (funext fun i => ?_)
  fin_cases i <;> apply Fin.ext <;> simp [ix3]
theorem ig_at (X : Vec Ideal S4x64x128 .f32) (b : Nat) (hb) (h : Fin 8) :
    ig (gB X b hb) h = fun s => X (ix3 ⟨b, hb⟩ s ⟨h.val, by omega⟩) := funext fun s => gB_at X b hb s _
theorem fg_at (X : Vec Ideal S4x64x128 .f32) (b : Nat) (hb) (h : Fin 8) :
    fg (gB X b hb) h = fun s => X (ix3 ⟨b, hb⟩ s ⟨8 + h.val, by omega⟩) := funext fun s => gB_at X b hb s _
theorem mB_at (X : Vec Ideal S4x8x128 .f32) (b : Nat) (hb) (s : Fin 8) (l : Fin 128) : mB X b hb (ix3 0 s l) = X (ix3 ⟨b, hb⟩ s l) := by
  refine congrArg X (funext fun i => ?_)
  fin_cases i <;> apply Fin.ext <;> simp [ix3]
theorem qB_at (X : Vec Ideal S4x64x512 .bf16) (b h : Nat) (hb hh) (s : Fin 64) (e : Fin 128) :
    qB X b h hb hh (ix3 0 s e) = X (ix3 ⟨b, hb⟩ s (hd ⟨h, hh⟩ e)) := by
  refine congrArg X (funext fun i => ?_)
  fin_cases i <;> apply Fin.ext <;> simp [ix3, hd]
theorem oB_at (X : Vec Ideal S4x64x512 .f32) (b h : Nat) (hb hh) (s : Fin 64) (e : Fin 128) :
    oB X b h hb hh (ix3 0 s e) = X (ix3 ⟨b, hb⟩ s (hd ⟨h, hh⟩ e)) := by
  refine congrArg X (funext fun i => ?_)
  fin_cases i <;> apply Fin.ext <;> simp [ix3, hd]
theorem cB_at (X : Vec Ideal S4x4x128x128 .f32) (b h : Nat) (hb hh) (e d : Fin 128) :
    cB X b h hb hh (ix4 0 0 e d) = X (ix4 ⟨b, hb⟩ ⟨h, hh⟩ e d) := by
  refine congrArg X (funext fun i => ?_)
  fin_cases i <;> apply Fin.ext <;> simp [ix4]
theorem rB_at (X : Vec Ideal S1x512 .f32) (h : Nat) (hh) (e : Fin 128) : rB X h hh (ix2 0 e) = X (ix2 0 (hd ⟨h, hh⟩ e)) := by
  refine congrArg X (funext fun i => ?_)
  fin_cases i <;> apply Fin.ext <;> simp [ix2, hd]

theorem idx_ix3 {a b c : Nat} (y : (⟨3, ![a, b, c]⟩ : Shape).Idx) : y = ix3 (y 0) (y 1) (y 2) := by
  funext i
  fin_cases i <;> rfl

theorem same4 (X : Vec Ideal S4x8x128 .f32) : k0_pay4 (F := Ideal) X = X := by
  funext y
  rw [idx_ix3 y]
  unfold k0_pay4
  pointwise
theorem same5 (X : Vec Ideal S4x8x128 .f32) : k0_pay5 (F := Ideal) X = X := same4 X

/-- The row of head `h` among eight rows. -/
def r8 (h : Fin 4) : Fin 8 := ⟨h.val, by omega⟩

section
variable (X0 X1 X2 : Vec Ideal S4x64x512 .bf16) (X3 : Vec Ideal S4x64x128 .f32) (X4 : Vec Ideal S4x64x512 .f32)
  (X5 : Vec Ideal S4x4x128x128 .f32) (X6 X7 : Vec Ideal S4x8x128 .f32) (X8 : Vec Ideal S1x512 .f32)

/-- The four output blocks. -/
def BlkH (y : S4x64x512.Idx) : EReal :=
  seqOut (fun s l => X3 (ix3 (y 0) s l)) (fun h => X7 (ix3 (y 0) (r8 h) 0)) (fun t j => X0 (ix3 (y 0) t j)) (fun t j => X1 (ix3 (y 0) t j))
    (fun t j => X2 (ix3 (y 0) t j)) (fun h e d => X5 (ix4 (y 0) h e d)) (fun h e => X6 (ix3 (y 0) (r8 h) e)) (fun t j => X4 (ix3 (y 0) t j))
    (fun j => X8 (ix2 0 j)) ⟨(y 2).val / 128, Nat.div_lt_of_lt_mul (y 2).isLt⟩ (y 1) ⟨(y 2).val % 128, Nat.mod_lt _ (by decide)⟩
def BlkC (y : S4x4x128x128.Idx) : EReal :=
  seqC (fun s l => X3 (ix3 (y 0) s l)) (fun h => X7 (ix3 (y 0) (r8 h) 0)) (fun t j => X1 (ix3 (y 0) t j)) (fun t j => X2 (ix3 (y 0) t j))
    (fun h e d => X5 (ix4 (y 0) h e d)) (y 1) (y 2) (y 3)
def BlkN (y : S4x8x128.Idx) : EReal :=
  NB (gB X3 (y 0).val (y 0).isLt) (mB X7 (y 0).val (y 0).isLt) (mB X6 (y 0).val (y 0).isLt) (qB X1 (y 0).val 0 (y 0).isLt)
    (qB X1 (y 0).val 1 (y 0).isLt) (qB X1 (y 0).val 2 (y 0).isLt) (qB X1 (y 0).val 3 (y 0).isLt) (ix3 0 (y 1) (y 2))
def BlkM (y : S4x8x128.Idx) : EReal := MB (gB X3 (y 0).val (y 0).isLt) (mB X7 (y 0).val (y 0).isLt) (ix3 0 (y 1) (y 2))

theorem H_piece (b h : Nat) (hb : b < 4) (hh : h < 4) (hr hk) (o : Nat) (ho : o = h * 128) (inb) (x : S1x64x128.Idx) :
    HmB (rowH h hr) (colH h hk) (gB X3 b hb) (mB (k0_pay4 X7) b hb) (mB (k0_pay5 X6) b hb) (qB X0 b h hb hh) (qB X1 b h hb hh) (qB X2 b h hb hh)
      (cB X5 b h hb hh) (rB X8 h hh) (oB X4 b h hb hh) x
      = BlkH X0 X1 X2 X3 X4 X5 X6 X7 X8 ((Rect.unit (s := S4x64x512) ![b, 0, o] ![1, 64, 128] inb).emb x) := by
  rw [same4, same5]
  subst ho
  have ex : x = ix3 0 (x 1) (x 2) := by
    funext i
    fin_cases i
    · exact Subsingleton.elim (α := Fin 1) _ _
    · rfl
    · rfl
  have e : (Rect.unit (s := S4x64x512) ![b, 0, h * 128] ![1, 64, 128] inb).emb x = ix3 ⟨b, hb⟩ (x 1) (hd ⟨h, hh⟩ (x 2)) := by
    rw [ex]
    funext i
    fin_cases i <;> apply Fin.ext <;> simp [ix3, hd]
  rw [e]
  refine (congrArg _ ex).trans ?_
  refine (Hm_at ⟨h, by omega⟩ hh hr hk _ _ _ _ _ _ _ _ _ (x 1) (x 2)).trans ?_
  unfold BlkH seqOut
  have h2 : (x 2).val < 128 := (x 2).isLt
  have d1 : (⟨((hd ⟨h, hh⟩ (x 2))).val / 128, Nat.div_lt_of_lt_mul (hd ⟨h, hh⟩ (x 2)).isLt⟩ : Fin 4) = ⟨h, hh⟩ :=
    Fin.ext (by simp only [hd]; omega)
  have d2 : (⟨((hd ⟨h, hh⟩ (x 2))).val % 128, Nat.mod_lt _ (by decide)⟩ : Fin 128) = x 2 :=
    Fin.ext (by simp only [hd]; omega)
  simp only [ix3_0, ix3_1, ix3_2, d1, d2]
  simp only [ig_at, fg_at, mB_at, qB_at, cB_at, rB_at, oB_at]
  rw [show (fun e => oB X4 b h hb hh (ix3 0 (x 1) e)) = fun e => X4 (ix3 ⟨b, hb⟩ (x 1) (hd ⟨h, hh⟩ e)) from
    funext fun e => oB_at X4 b h hb hh (x 1) e]
  rfl

theorem C_piece (b h : Nat) (hb : b < 4) (hh : h < 4) (hr hk) (inb) (x : S1x1x128x128.Idx) :
    CB (rowH h hr) (decH h hk) (gB X3 b hb) (mB (k0_pay4 X7) b hb) (qB X1 b h hb hh) (qB X2 b h hb hh) (cB X5 b h hb hh) x
      = BlkC X1 X2 X3 X5 X7 ((Rect.unit (s := S4x4x128x128) ![b, h, 0, 0] ![1, 1, 128, 128] inb).emb x) := by
  rw [same4]
  have ex : x = ix4 0 0 (x 2) (x 3) := by
    funext i
    fin_cases i
    · exact Subsingleton.elim (α := Fin 1) _ _
    · exact Subsingleton.elim (α := Fin 1) _ _
    · rfl
    · rfl
  have e : (Rect.unit (s := S4x4x128x128) ![b, h, 0, 0] ![1, 1, 128, 128] inb).emb x = ix4 ⟨b, hb⟩ ⟨h, hh⟩ (x 2) (x 3) := by
    rw [ex]
    funext i
    fin_cases i <;> apply Fin.ext <;> simp [ix4]
  rw [e]
  refine (congrArg _ ex).trans ?_
  refine (C_new_at ⟨h, by omega⟩ hr hk _ _ _ _ _ (x 2) (x 3)).trans ?_
  unfold BlkC seqC
  simp only [ix4_0, ix4_1, ix4_2, ix4_3]
  simp only [ig_at, fg_at, mB_at, qB_at, cB_at]
  rfl

theorem emb8 (b : Nat) (hb : b < 4) (inb) (x : S1x8x128.Idx) :
    (Rect.unit (s := S4x8x128) ![b, 0, 0] ![1, 8, 128] inb).emb x = ix3 ⟨b, hb⟩ (x 1) (x 2) := by
  have h0 : (x 0).val = 0 := by have h : (x 0).val < 1 := (x 0).isLt; omega
  funext i
  fin_cases i <;> apply Fin.ext <;> simp [ix3, h0]

theorem ix8 (x : S1x8x128.Idx) : x = ix3 0 (x 1) (x 2) := by
  funext i
  fin_cases i
  · exact Subsingleton.elim (α := Fin 1) _ _
  · rfl
  · rfl

theorem N_piece (b : Nat) (hb : b < 4) (inb) (x : S1x8x128.Idx) :
    NB (gB X3 b hb) (mB (k0_pay4 X7) b hb) (mB (k0_pay5 X6) b hb) (qB X1 b 0 hb) (qB X1 b 1 hb) (qB X1 b 2 hb) (qB X1 b 3 hb) x
      = BlkN X1 X3 X6 X7 ((Rect.unit (s := S4x8x128) ![b, 0, 0] ![1, 8, 128] inb).emb x) := by
  rw [same4, same5]
  rw [emb8 b hb inb x]
  exact congrArg _ (ix8 x)

theorem M_piece (b : Nat) (hb : b < 4) (inb) (x : S1x8x128.Idx) :
    MB (gB X3 b hb) (mB (k0_pay4 X7) b hb) x = BlkM X3 X7 ((Rect.unit (s := S4x8x128) ![b, 0, 0] ![1, 8, 128] inb).emb x) := by
  rw [same4]
  rw [emb8 b hb inb x]
  exact congrArg _ (ix8 x)

/-- In the rows of the heads the last two blocks are the new normaliser and the new stabiliser. -/
theorem N_row (b : Fin 4) (h : Fin 4) (e : Fin 128) :
    BlkN X1 X3 X6 X7 (ix3 b (r8 h) e)
      = seqN (fun s l => X3 (ix3 b s l)) (fun h => X7 (ix3 b (r8 h) 0)) (fun t j => X1 (ix3 b t j)) (fun h e => X6 (ix3 b (r8 h) e)) h e := by
  refine (N_new_at (r8 h) h.isLt (gB X3 b.val b.isLt) (mB X7 b.val b.isLt) (mB X6 b.val b.isLt)
    (fun h => qB X1 b.val h.val b.isLt h.isLt) e).trans ?_
  unfold seqN
  simp only [ig_at, fg_at, mB_at, qB_at]
  rfl

theorem M_row (b : Fin 4) (h : Fin 4) (e : Fin 128) :
    BlkM X3 X7 (ix3 b (r8 h) e) = seqM (fun s l => X3 (ix3 b s l)) (fun h => X7 (ix3 b (r8 h) 0)) h := by
  refine (M_new_at (r8 h) (gB X3 b.val b.isLt) (mB X7 b.val b.isLt) e).trans ?_
  unfold seqM
  simp only [ig_at, fg_at, mB_at]
  rfl
end

variable (m : (ℓ : Loc nD τ sig) → Buf (Elt Ideal) ℓ)

set_option maxHeartbeats 4000000

theorem outM (c : Dev nD) (t : Fin cfg0.N) : (outsAt0 m c t).2.2.2 = BlkM (iblk m c 3 t) (iblk m c 7 t) := by
  unfold outsAt0
  frame_open
  simp (disch := decide) only [↓ View.readCov_skip, ↓ View.readCov_cons_toLoadRect, ↓ View.readCov_fill,
    View.read_writes_junk_eq_canon, View.readAt_eq_ld, Memref.IsWhole.read_unread, View.ld_unit_lit']
  refine canon_four (Val := Elt Ideal) (e := .f32) (BlkM (iblk m c 3 t) (iblk m c 7 t)) _ _ _ _ _ ?h ?c
  case h =>
    refine pieces_step (MB (gB (iblk m c 3 t) 3) (mB (k0_pay4 (iblk m c 7 t)) 3))
      (by sl_kernel_rfl) (by exact M_piece (iblk m c 3 t) (iblk m c 7 t) 3 (by decide) _) ?_
    refine pieces_step (MB (gB (iblk m c 3 t) 2) (mB (k0_pay4 (iblk m c 7 t)) 2))
      (by sl_kernel_rfl) (by exact M_piece (iblk m c 3 t) (iblk m c 7 t) 2 (by decide) _) ?_
    refine pieces_step (MB (gB (iblk m c 3 t) 1) (mB (k0_pay4 (iblk m c 7 t)) 1))
      (by sl_kernel_rfl) (by exact M_piece (iblk m c 3 t) (iblk m c 7 t) 1 (by decide) _) ?_
    refine pieces_step (MB (gB (iblk m c 3 t) 0) (mB (k0_pay4 (iblk m c 7 t)) 0))
      (by sl_kernel_rfl) (by exact M_piece (iblk m c 3 t) (iblk m c 7 t) 0 (by decide) _) ?_
    trivial
  case c => exact View.cover_of_tiledL _ ![1, 8, 128] (by sl_kernel_rfl)

theorem outN (c : Dev nD) (t : Fin cfg0.N) : (outsAt0 m c t).2.2.1 = BlkN (iblk m c 1 t) (iblk m c 3 t) (iblk m c 6 t) (iblk m c 7 t) := by
  unfold outsAt0
  frame_open
  simp (disch := decide) only [↓ View.readCov_skip, ↓ View.readCov_cons_toLoadRect, ↓ View.readCov_fill,
    View.read_writes_junk_eq_canon, View.readAt_eq_ld, Memref.IsWhole.read_unread, View.ld_unit_lit']
  refine canon_four (Val := Elt Ideal) (e := .f32) (BlkN (iblk m c 1 t) (iblk m c 3 t) (iblk m c 6 t) (iblk m c 7 t)) _ _ _ _ _ ?h ?c
  case h =>
    refine pieces_step (NB (gB (iblk m c 3 t) 3) (mB (k0_pay4 (iblk m c 7 t)) 3) (mB (k0_pay5 (iblk m c 6 t)) 3) (qB (iblk m c 1 t) 3 0) (qB (iblk m c 1 t) 3 1) (qB (iblk m c 1 t) 3 2) (qB (iblk m c 1 t) 3 3))
      (by sl_kernel_rfl) (by exact N_piece (iblk m c 1 t) (iblk m c 3 t) (iblk m c 6 t) (iblk m c 7 t) 3 (by decide) _) ?_
    refine pieces_step (NB (gB (iblk m c 3 t) 2) (mB (k0_pay4 (iblk m c 7 t)) 2) (mB (k0_pay5 (iblk m c 6 t)) 2) (qB (iblk m c 1 t) 2 0) (qB (iblk m c 1 t) 2 1) (qB (iblk m c 1 t) 2 2) (qB (iblk m c 1 t) 2 3))
      (by sl_kernel_rfl) (by exact N_piece (iblk m c 1 t) (iblk m c 3 t) (iblk m c 6 t) (iblk m c 7 t) 2 (by decide) _) ?_
    refine pieces_step (NB (gB (iblk m c 3 t) 1) (mB (k0_pay4 (iblk m c 7 t)) 1) (mB (k0_pay5 (iblk m c 6 t)) 1) (qB (iblk m c 1 t) 1 0) (qB (iblk m c 1 t) 1 1) (qB (iblk m c 1 t) 1 2) (qB (iblk m c 1 t) 1 3))
      (by sl_kernel_rfl) (by exact N_piece (iblk m c 1 t) (iblk m c 3 t) (iblk m c 6 t) (iblk m c 7 t) 1 (by decide) _) ?_
    refine pieces_step (NB (gB (iblk m c 3 t) 0) (mB (k0_pay4 (iblk m c 7 t)) 0) (mB (k0_pay5 (iblk m c 6 t)) 0) (qB (iblk m c 1 t) 0 0) (qB (iblk m c 1 t) 0 1) (qB (iblk m c 1 t) 0 2) (qB (iblk m c 1 t) 0 3))
      (by sl_kernel_rfl) (by exact N_piece (iblk m c 1 t) (iblk m c 3 t) (iblk m c 6 t) (iblk m c 7 t) 0 (by decide) _) ?_
    trivial
  case c => exact View.cover_of_tiledL _ ![1, 8, 128] (by sl_kernel_rfl)

theorem outC (c : Dev nD) (t : Fin cfg0.N) : (outsAt0 m c t).2.1 = BlkC (iblk m c 1 t) (iblk m c 2 t) (iblk m c 3 t) (iblk m c 5 t) (iblk m c 7 t) := by
  unfold outsAt0
  frame_open
  simp (disch := decide) only [↓ View.readCov_skip, ↓ View.readCov_cons_toLoadRect, ↓ View.readCov_fill,
    View.read_writes_junk_eq_canon, View.readAt_eq_ld, Memref.IsWhole.read_unread, View.ld_unit_lit']
  refine canon_of_pieces (Val := Elt Ideal) (e := .f32) (BlkC (iblk m c 1 t) (iblk m c 2 t) (iblk m c 3 t) (iblk m c 5 t) (iblk m c 7 t)) _ ?h ?c
  case h =>
    refine pieces_step (CB (rowH 3 (by decide)) (decH 3 (by decide)) (gB (iblk m c 3 t) 3) (mB (k0_pay4 (iblk m c 7 t)) 3) (qB (iblk m c 1 t) 3 3) (qB (iblk m c 2 t) 3 3) (cB (iblk m c 5 t) 3 3))
      (by sl_kernel_rfl) (by exact C_piece (iblk m c 1 t) (iblk m c 2 t) (iblk m c 3 t) (iblk m c 5 t) (iblk m c 7 t) 3 3 (by decide) (by decide) (by decide) (by decide) _) ?_
    refine pieces_step (CB (rowH 2 (by decide)) (decH 2 (by decide)) (gB (iblk m c 3 t) 3) (mB (k0_pay4 (iblk m c 7 t)) 3) (qB (iblk m c 1 t) 3 2) (qB (iblk m c 2 t) 3 2) (cB (iblk m c 5 t) 3 2))
      (by sl_kernel_rfl) (by exact C_piece (iblk m c 1 t) (iblk m c 2 t) (iblk m c 3 t) (iblk m c 5 t) (iblk m c 7 t) 3 2 (by decide) (by decide) (by decide) (by decide) _) ?_
    refine pieces_step (CB (rowH 1 (by decide)) (decH 1 (by decide)) (gB (iblk m c 3 t) 3) (mB (k0_pay4 (iblk m c 7 t)) 3) (qB (iblk m c 1 t) 3 1) (qB (iblk m c 2 t) 3 1) (cB (iblk m c 5 t) 3 1))
      (by sl_kernel_rfl) (by exact C_piece (iblk m c 1 t) (iblk m c 2 t) (iblk m c 3 t) (iblk m c 5 t) (iblk m c 7 t) 3 1 (by decide) (by decide) (by decide) (by decide) _) ?_
    refine pieces_step (CB (rowH 0 (by decide)) (decH 0 (by decide)) (gB (iblk m c 3 t) 3) (mB (k0_pay4 (iblk m c 7 t)) 3) (qB (iblk m c 1 t) 3 0) (qB (iblk m c 2 t) 3 0) (cB (iblk m c 5 t) 3 0))
      (by sl_kernel_rfl) (by exact C_piece (iblk m c 1 t) (iblk m c 2 t) (iblk m c 3 t) (iblk m c 5 t) (iblk m c 7 t) 3 0 (by decide) (by decide) (by decide) (by decide) _) ?_
    refine pieces_step (CB (rowH 3 (by decide)) (decH 3 (by decide)) (gB (iblk m c 3 t) 2) (mB (k0_pay4 (iblk m c 7 t)) 2) (qB (iblk m c 1 t) 2 3) (qB (iblk m c 2 t) 2 3) (cB (iblk m c 5 t) 2 3))
      (by sl_kernel_rfl) (by exact C_piece (iblk m c 1 t) (iblk m c 2 t) (iblk m c 3 t) (iblk m c 5 t) (iblk m c 7 t) 2 3 (by decide) (by decide) (by decide) (by decide) _) ?_
    refine pieces_step (CB (rowH 2 (by decide)) (decH 2 (by decide)) (gB (iblk m c 3 t) 2) (mB (k0_pay4 (iblk m c 7 t)) 2) (qB (iblk m c 1 t) 2 2) (qB (iblk m c 2 t) 2 2) (cB (iblk m c 5 t) 2 2))
      (by sl_kernel_rfl) (by exact C_piece (iblk m c 1 t) (iblk m c 2 t) (iblk m c 3 t) (iblk m c 5 t) (iblk m c 7 t) 2 2 (by decide) (by decide) (by decide) (by decide) _) ?_
    refine pieces_step (CB (rowH 1 (by decide)) (decH 1 (by decide)) (gB (iblk m c 3 t) 2) (mB (k0_pay4 (iblk m c 7 t)) 2) (qB (iblk m c 1 t) 2 1) (qB (iblk m c 2 t) 2 1) (cB (iblk m c 5 t) 2 1))
      (by sl_kernel_rfl) (by exact C_piece (iblk m c 1 t) (iblk m c 2 t) (iblk m c 3 t) (iblk m c 5 t) (iblk m c 7 t) 2 1 (by decide) (by decide) (by decide) (by decide) _) ?_
    refine pieces_step (CB (rowH 0 (by decide)) (decH 0 (by decide)) (gB (iblk m c 3 t) 2) (mB (k0_pay4 (iblk m c 7 t)) 2) (qB (iblk m c 1 t) 2 0) (qB (iblk m c 2 t) 2 0) (cB (iblk m c 5 t) 2 0))
      (by sl_kernel_rfl) (by exact C_piece (iblk m c 1 t) (iblk m c 2 t) (iblk m c 3 t) (iblk m c 5 t) (iblk m c 7 t) 2 0 (by decide) (by decide) (by decide) (by decide) _) ?_
    refine pieces_step (CB (rowH 3 (by decide)) (decH 3 (by decide)) (gB (iblk m c 3 t) 1) (mB (k0_pay4 (iblk m c 7 t)) 1) (qB (iblk m c 1 t) 1 3) (qB (iblk m c 2 t) 1 3) (cB (iblk m c 5 t) 1 3))
      (by sl_kernel_rfl) (by exact C_piece (iblk m c 1 t) (iblk m c 2 t) (iblk m c 3 t) (iblk m c 5 t) (iblk m c 7 t) 1 3 (by decide) (by decide) (by decide) (by decide) _) ?_
    refine pieces_step (CB (rowH 2 (by decide)) (decH 2 (by decide)) (gB (iblk m c 3 t) 1) (mB (k0_pay4 (iblk m c 7 t)) 1) (qB (iblk m c 1 t) 1 2) (qB (iblk m c 2 t) 1 2) (cB (iblk m c 5 t) 1 2))
      (by sl_kernel_rfl) (by exact C_piece (iblk m c 1 t) (iblk m c 2 t) (iblk m c 3 t) (iblk m c 5 t) (iblk m c 7 t) 1 2 (by decide) (by decide) (by decide) (by decide) _) ?_
    refine pieces_step (CB (rowH 1 (by decide)) (decH 1 (by decide)) (gB (iblk m c 3 t) 1) (mB (k0_pay4 (iblk m c 7 t)) 1) (qB (iblk m c 1 t) 1 1) (qB (iblk m c 2 t) 1 1) (cB (iblk m c 5 t) 1 1))
      (by sl_kernel_rfl) (by exact C_piece (iblk m c 1 t) (iblk m c 2 t) (iblk m c 3 t) (iblk m c 5 t) (iblk m c 7 t) 1 1 (by decide) (by decide) (by decide) (by decide) _) ?_
    refine pieces_step (CB (rowH 0 (by decide)) (decH 0 (by decide)) (gB (iblk m c 3 t) 1) (mB (k0_pay4 (iblk m c 7 t)) 1) (qB (iblk m c 1 t) 1 0) (qB (iblk m c 2 t) 1 0) (cB (iblk m c 5 t) 1 0))
      (by sl_kernel_rfl) (by exact C_piece (iblk m c 1 t) (iblk m c 2 t) (iblk m c 3 t) (iblk m c 5 t) (iblk m c 7 t) 1 0 (by decide) (by decide) (by decide) (by decide) _) ?_
    refine pieces_step (CB (rowH 3 (by decide)) (decH 3 (by decide)) (gB (iblk m c 3 t) 0) (mB (k0_pay4 (iblk m c 7 t)) 0) (qB (iblk m c 1 t) 0 3) (qB (iblk m c 2 t) 0 3) (cB (iblk m c 5 t) 0 3))
      (by sl_kernel_rfl) (by exact C_piece (iblk m c 1 t) (iblk m c 2 t) (iblk m c 3 t) (iblk m c 5 t) (iblk m c 7 t) 0 3 (by decide) (by decide) (by decide) (by decide) _) ?_
    refine pieces_step (CB (rowH 2 (by decide)) (decH 2 (by decide)) (gB (iblk m c 3 t) 0) (mB (k0_pay4 (iblk m c 7 t)) 0) (qB (iblk m c 1 t) 0 2) (qB (iblk m c 2 t) 0 2) (cB (iblk m c 5 t) 0 2))
      (by sl_kernel_rfl) (by exact C_piece (iblk m c 1 t) (iblk m c 2 t) (iblk m c 3 t) (iblk m c 5 t) (iblk m c 7 t) 0 2 (by decide) (by decide) (by decide) (by decide) _) ?_
    refine pieces_step (CB (rowH 1 (by decide)) (decH 1 (by decide)) (gB (iblk m c 3 t) 0) (mB (k0_pay4 (iblk m c 7 t)) 0) (qB (iblk m c 1 t) 0 1) (qB (iblk m c 2 t) 0 1) (cB (iblk m c 5 t) 0 1))
      (by sl_kernel_rfl) (by exact C_piece (iblk m c 1 t) (iblk m c 2 t) (iblk m c 3 t) (iblk m c 5 t) (iblk m c 7 t) 0 1 (by decide) (by decide) (by decide) (by decide) _) ?_
    refine pieces_step (CB (rowH 0 (by decide)) (decH 0 (by decide)) (gB (iblk m c 3 t) 0) (mB (k0_pay4 (iblk m c 7 t)) 0) (qB (iblk m c 1 t) 0 0) (qB (iblk m c 2 t) 0 0) (cB (iblk m c 5 t) 0 0))
      (by sl_kernel_rfl) (by exact C_piece (iblk m c 1 t) (iblk m c 2 t) (iblk m c 3 t) (iblk m c 5 t) (iblk m c 7 t) 0 0 (by decide) (by decide) (by decide) (by decide) _) ?_
    trivial
  case c => exact View.cover_of_tiledL _ ![1, 1, 128, 128] (by sl_kernel_rfl)

theorem outH (c : Dev nD) (t : Fin cfg0.N) : (outsAt0 m c t).1 = BlkH (iblk m c 0 t) (iblk m c 1 t) (iblk m c 2 t) (iblk m c 3 t) (iblk m c 4 t) (iblk m c 5 t) (iblk m c 6 t) (iblk m c 7 t) (iblk m c 8 t) := by
  unfold outsAt0
  frame_open
  simp (disch := decide) only [↓ View.readCov_skip, ↓ View.readCov_cons_toLoadRect, ↓ View.readCov_fill,
    View.read_writes_junk_eq_canon, View.readAt_eq_ld, Memref.IsWhole.read_unread, View.ld_unit_lit']
  refine canon_of_pieces (Val := Elt Ideal) (e := .bf16) (BlkH (iblk m c 0 t) (iblk m c 1 t) (iblk m c 2 t) (iblk m c 3 t) (iblk m c 4 t) (iblk m c 5 t) (iblk m c 6 t) (iblk m c 7 t) (iblk m c 8 t)) _ ?h ?c
  case h =>
    refine pieces_step (HmB (rowH 3 (by decide)) (colH 3 (by decide)) (gB (iblk m c 3 t) 3) (mB (k0_pay4 (iblk m c 7 t)) 3) (mB (k0_pay5 (iblk m c 6 t)) 3) (qB (iblk m c 0 t) 3 3) (qB (iblk m c 1 t) 3 3) (qB (iblk m c 2 t) 3 3) (cB (iblk m c 5 t) 3 3) (rB (iblk m c 8 t) 3) (oB (iblk m c 4 t) 3 3))
      (by sl_kernel_rfl) (by exact H_piece (iblk m c 0 t) (iblk m c 1 t) (iblk m c 2 t) (iblk m c 3 t) (iblk m c 4 t) (iblk m c 5 t) (iblk m c 6 t) (iblk m c 7 t) (iblk m c 8 t) 3 3 (by decide) (by decide) (by decide) (by decide) 384 (by decide) _) ?_
    refine pieces_step (HmB (rowH 2 (by decide)) (colH 2 (by decide)) (gB (iblk m c 3 t) 3) (mB (k0_pay4 (iblk m c 7 t)) 3) (mB (k0_pay5 (iblk m c 6 t)) 3) (qB (iblk m c 0 t) 3 2) (qB (iblk m c 1 t) 3 2) (qB (iblk m c 2 t) 3 2) (cB (iblk m c 5 t) 3 2) (rB (iblk m c 8 t) 2) (oB (iblk m c 4 t) 3 2))
      (by sl_kernel_rfl) (by exact H_piece (iblk m c 0 t) (iblk m c 1 t) (iblk m c 2 t) (iblk m c 3 t) (iblk m c 4 t) (iblk m c 5 t) (iblk m c 6 t) (iblk m c 7 t) (iblk m c 8 t) 3 2 (by decide) (by decide) (by decide) (by decide) 256 (by decide) _) ?_
    refine pieces_step (HmB (rowH 1 (by decide)) (colH 1 (by decide)) (gB (iblk m c 3 t) 3) (mB (k0_pay4 (iblk m c 7 t)) 3) (mB (k0_pay5 (iblk m c 6 t)) 3) (qB (iblk m c 0 t) 3 1) (qB (iblk m c 1 t) 3 1) (qB (iblk m c 2 t) 3 1) (cB (iblk m c 5 t) 3 1) (rB (iblk m c 8 t) 1) (oB (iblk m c 4 t) 3 1))
      (by sl_kernel_rfl) (by exact H_piece (iblk m c 0 t) (iblk m c 1 t) (iblk m c 2 t) (iblk m c 3 t) (iblk m c 4 t) (iblk m c 5 t) (iblk m c 6 t) (iblk m c 7 t) (iblk m c 8 t) 3 1 (by decide) (by decide) (by decide) (by decide) 128 (by decide) _) ?_
    refine pieces_step (HmB (rowH 0 (by decide)) (colH 0 (by decide)) (gB (iblk m c 3 t) 3) (mB (k0_pay4 (iblk m c 7 t)) 3) (mB (k0_pay5 (iblk m c 6 t)) 3) (qB (iblk m c 0 t) 3 0) (qB (iblk m c 1 t) 3 0) (qB (iblk m c 2 t) 3 0) (cB (iblk m c 5 t) 3 0) (rB (iblk m c 8 t) 0) (oB (iblk m c 4 t) 3 0))
      (by sl_kernel_rfl) (by exact H_piece (iblk m c 0 t) (iblk m c 1 t) (iblk m c 2 t) (iblk m c 3 t) (iblk m c 4 t) (iblk m c 5 t) (iblk m c 6 t) (iblk m c 7 t) (iblk m c 8 t) 3 0 (by decide) (by decide) (by decide) (by decide) 0 (by decide) _) ?_
    refine pieces_step (HmB (rowH 3 (by decide)) (colH 3 (by decide)) (gB (iblk m c 3 t) 2) (mB (k0_pay4 (iblk m c 7 t)) 2) (mB (k0_pay5 (iblk m c 6 t)) 2) (qB (iblk m c 0 t) 2 3) (qB (iblk m c 1 t) 2 3) (qB (iblk m c 2 t) 2 3) (cB (iblk m c 5 t) 2 3) (rB (iblk m c 8 t) 3) (oB (iblk m c 4 t) 2 3))
      (by sl_kernel_rfl) (by exact H_piece (iblk m c 0 t) (iblk m c 1 t) (iblk m c 2 t) (iblk m c 3 t) (iblk m c 4 t) (iblk m c 5 t) (iblk m c 6 t) (iblk m c 7 t) (iblk m c 8 t) 2 3 (by decide) (by decide) (by decide) (by decide) 384 (by decide) _) ?_
    refine pieces_step (HmB (rowH 2 (by decide)) (colH 2 (by decide)) (gB (iblk m c 3 t) 2) (mB (k0_pay4 (iblk m c 7 t)) 2) (mB (k0_pay5 (iblk m c 6 t)) 2) (qB (iblk m c 0 t) 2 2) (qB (iblk m c 1 t) 2 2) (qB (iblk m c 2 t) 2 2) (cB (iblk m c 5 t) 2 2) (rB (iblk m c 8 t) 2) (oB (iblk m c 4 t) 2 2))
      (by sl_kernel_rfl) (by exact H_piece (iblk m c 0 t) (iblk m c 1 t) (iblk m c 2 t) (iblk m c 3 t) (iblk m c 4 t) (iblk m c 5 t) (iblk m c 6 t) (iblk m c 7 t) (iblk m c 8 t) 2 2 (by decide) (by decide) (by decide) (by decide) 256 (by decide) _) ?_
    refine pieces_step (HmB (rowH 1 (by decide)) (colH 1 (by decide)) (gB (iblk m c 3 t) 2) (mB (k0_pay4 (iblk m c 7 t)) 2) (mB (k0_pay5 (iblk m c 6 t)) 2) (qB (iblk m c 0 t) 2 1) (qB (iblk m c 1 t) 2 1) (qB (iblk m c 2 t) 2 1) (cB (iblk m c 5 t) 2 1) (rB (iblk m c 8 t) 1) (oB (iblk m c 4 t) 2 1))
      (by sl_kernel_rfl) (by exact H_piece (iblk m c 0 t) (iblk m c 1 t) (iblk m c 2 t) (iblk m c 3 t) (iblk m c 4 t) (iblk m c 5 t) (iblk m c 6 t) (iblk m c 7 t) (iblk m c 8 t) 2 1 (by decide) (by decide) (by decide) (by decide) 128 (by decide) _) ?_
    refine pieces_step (HmB (rowH 0 (by decide)) (colH 0 (by decide)) (gB (iblk m c 3 t) 2) (mB (k0_pay4 (iblk m c 7 t)) 2) (mB (k0_pay5 (iblk m c 6 t)) 2) (qB (iblk m c 0 t) 2 0) (qB (iblk m c 1 t) 2 0) (qB (iblk m c 2 t) 2 0) (cB (iblk m c 5 t) 2 0) (rB (iblk m c 8 t) 0) (oB (iblk m c 4 t) 2 0))
      (by sl_kernel_rfl) (by exact H_piece (iblk m c 0 t) (iblk m c 1 t) (iblk m c 2 t) (iblk m c 3 t) (iblk m c 4 t) (iblk m c 5 t) (iblk m c 6 t) (iblk m c 7 t) (iblk m c 8 t) 2 0 (by decide) (by decide) (by decide) (by decide) 0 (by decide) _) ?_
    refine pieces_step (HmB (rowH 3 (by decide)) (colH 3 (by decide)) (gB (iblk m c 3 t) 1) (mB (k0_pay4 (iblk m c 7 t)) 1) (mB (k0_pay5 (iblk m c 6 t)) 1) (qB (iblk m c 0 t) 1 3) (qB (iblk m c 1 t) 1 3) (qB (iblk m c 2 t) 1 3) (cB (iblk m c 5 t) 1 3) (rB (iblk m c 8 t) 3) (oB (iblk m c 4 t) 1 3))
      (by sl_kernel_rfl) (by exact H_piece (iblk m c 0 t) (iblk m c 1 t) (iblk m c 2 t) (iblk m c 3 t) (iblk m c 4 t) (iblk m c 5 t) (iblk m c 6 t) (iblk m c 7 t) (iblk m c 8 t) 1 3 (by decide) (by decide) (by decide) (by decide) 384 (by decide) _) ?_
    refine pieces_step (HmB (rowH 2 (by decide)) (colH 2 (by decide)) (gB (iblk m c 3 t) 1) (mB (k0_pay4 (iblk m c 7 t)) 1) (mB (k0_pay5 (iblk m c 6 t)) 1) (qB (iblk m c 0 t) 1 2) (qB (iblk m c 1 t) 1 2) (qB (iblk m c 2 t) 1 2) (cB (iblk m c 5 t) 1 2) (rB (iblk m c 8 t) 2) (oB (iblk m c 4 t) 1 2))
      (by sl_kernel_rfl) (by exact H_piece (iblk m c 0 t) (iblk m c 1 t) (iblk m c 2 t) (iblk m c 3 t) (iblk m c 4 t) (iblk m c 5 t) (iblk m c 6 t) (iblk m c 7 t) (iblk m c 8 t) 1 2 (by decide) (by decide) (by decide) (by decide) 256 (by decide) _) ?_
    refine pieces_step (HmB (rowH 1 (by decide)) (colH 1 (by decide)) (gB (iblk m c 3 t) 1) (mB (k0_pay4 (iblk m c 7 t)) 1) (mB (k0_pay5 (iblk m c 6 t)) 1) (qB (iblk m c 0 t) 1 1) (qB (iblk m c 1 t) 1 1) (qB (iblk m c 2 t) 1 1) (cB (iblk m c 5 t) 1 1) (rB (iblk m c 8 t) 1) (oB (iblk m c 4 t) 1 1))
      (by sl_kernel_rfl) (by exact H_piece (iblk m c 0 t) (iblk m c 1 t) (iblk m c 2 t) (iblk m c 3 t) (iblk m c 4 t) (iblk m c 5 t) (iblk m c 6 t) (iblk m c 7 t) (iblk m c 8 t) 1 1 (by decide) (by decide) (by decide) (by decide) 128 (by decide) _) ?_
    refine pieces_step (HmB (rowH 0 (by decide)) (colH 0 (by decide)) (gB (iblk m c 3 t) 1) (mB (k0_pay4 (iblk m c 7 t)) 1) (mB (k0_pay5 (iblk m c 6 t)) 1) (qB (iblk m c 0 t) 1 0) (qB (iblk m c 1 t) 1 0) (qB (iblk m c 2 t) 1 0) (cB (iblk m c 5 t) 1 0) (rB (iblk m c 8 t) 0) (oB (iblk m c 4 t) 1 0))
      (by sl_kernel_rfl) (by exact H_piece (iblk m c 0 t) (iblk m c 1 t) (iblk m c 2 t) (iblk m c 3 t) (iblk m c 4 t) (iblk m c 5 t) (iblk m c 6 t) (iblk m c 7 t) (iblk m c 8 t) 1 0 (by decide) (by decide) (by decide) (by decide) 0 (by decide) _) ?_
    refine pieces_step (HmB (rowH 3 (by decide)) (colH 3 (by decide)) (gB (iblk m c 3 t) 0) (mB (k0_pay4 (iblk m c 7 t)) 0) (mB (k0_pay5 (iblk m c 6 t)) 0) (qB (iblk m c 0 t) 0 3) (qB (iblk m c 1 t) 0 3) (qB (iblk m c 2 t) 0 3) (cB (iblk m c 5 t) 0 3) (rB (iblk m c 8 t) 3) (oB (iblk m c 4 t) 0 3))
      (by sl_kernel_rfl) (by exact H_piece (iblk m c 0 t) (iblk m c 1 t) (iblk m c 2 t) (iblk m c 3 t) (iblk m c 4 t) (iblk m c 5 t) (iblk m c 6 t) (iblk m c 7 t) (iblk m c 8 t) 0 3 (by decide) (by decide) (by decide) (by decide) 384 (by decide) _) ?_
    refine pieces_step (HmB (rowH 2 (by decide)) (colH 2 (by decide)) (gB (iblk m c 3 t) 0) (mB (k0_pay4 (iblk m c 7 t)) 0) (mB (k0_pay5 (iblk m c 6 t)) 0) (qB (iblk m c 0 t) 0 2) (qB (iblk m c 1 t) 0 2) (qB (iblk m c 2 t) 0 2) (cB (iblk m c 5 t) 0 2) (rB (iblk m c 8 t) 2) (oB (iblk m c 4 t) 0 2))
      (by sl_kernel_rfl) (by exact H_piece (iblk m c 0 t) (iblk m c 1 t) (iblk m c 2 t) (iblk m c 3 t) (iblk m c 4 t) (iblk m c 5 t) (iblk m c 6 t) (iblk m c 7 t) (iblk m c 8 t) 0 2 (by decide) (by decide) (by decide) (by decide) 256 (by decide) _) ?_
    refine pieces_step (HmB (rowH 1 (by decide)) (colH 1 (by decide)) (gB (iblk m c 3 t) 0) (mB (k0_pay4 (iblk m c 7 t)) 0) (mB (k0_pay5 (iblk m c 6 t)) 0) (qB (iblk m c 0 t) 0 1) (qB (iblk m c 1 t) 0 1) (qB (iblk m c 2 t) 0 1) (cB (iblk m c 5 t) 0 1) (rB (iblk m c 8 t) 1) (oB (iblk m c 4 t) 0 1))
      (by sl_kernel_rfl) (by exact H_piece (iblk m c 0 t) (iblk m c 1 t) (iblk m c 2 t) (iblk m c 3 t) (iblk m c 4 t) (iblk m c 5 t) (iblk m c 6 t) (iblk m c 7 t) (iblk m c 8 t) 0 1 (by decide) (by decide) (by decide) (by decide) 128 (by decide) _) ?_
    refine pieces_step (HmB (rowH 0 (by decide)) (colH 0 (by decide)) (gB (iblk m c 3 t) 0) (mB (k0_pay4 (iblk m c 7 t)) 0) (mB (k0_pay5 (iblk m c 6 t)) 0) (qB (iblk m c 0 t) 0 0) (qB (iblk m c 1 t) 0 0) (qB (iblk m c 2 t) 0 0) (cB (iblk m c 5 t) 0 0) (rB (iblk m c 8 t) 0) (oB (iblk m c 4 t) 0 0))
      (by sl_kernel_rfl) (by exact H_piece (iblk m c 0 t) (iblk m c 1 t) (iblk m c 2 t) (iblk m c 3 t) (iblk m c 4 t) (iblk m c 5 t) (iblk m c 6 t) (iblk m c 7 t) (iblk m c 8 t) 0 0 (by decide) (by decide) (by decide) (by decide) 0 (by decide) _) ?_
    trivial
  case c => exact View.cover_of_tiledL _ ![1, 64, 128] (by sl_kernel_rfl)

end Cert.MlBlock

end
-- ==== Proof.Ml.lean ====
/- The mLSTM call returns the plain step's output and state, sequence by sequence. -/
module

public import proofs.«01_k».proof.Proof.MlBlock

@[expose] public section

set_option maxRecDepth 16384

noncomputable section

namespace Cert.MlValue

open Cert.KernelIdeal Cert.KernelIdeal.Gen Cert.FfnMath Cert.MlMath Cert.MlBlock Idealize.ShloMosaic Idealize.ShloMosaic.TcCoe Idealize.SL.Sem
open Idealize.ShloMosaic.Pipeline (Dat)

variable (m : (ℓ : Loc nD τ sig) → Buf (Elt Ideal) ℓ)

/-- The index maps at every grid point. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0, 0] ∧ win0_6.index t = ![t.val, 0, 0]
    ∧ win0_7.index t = ![t.val, 0, 0] ∧ win0_8.index t = ![0, 0] ∧ win0_9.index t = ![t.val, 0, 0] ∧ win0_10.index t = ![t.val, 0, 0, 0]
    ∧ win0_11.index t = ![t.val, 0, 0] ∧ win0_12.index t = ![t.val, 0, 0] ∧ t.val < 8 :=
  (by decide +kernel : ∀ t : Fin grid0.N, _)

theorem lt8 (t : Fin cfg0.N) : t.val < 8 := (idx t).2.2.2.2.2.2.2.2.2.2.2.2.2

theorem blk0 (c : Dev nD) (t : Fin cfg0.N) (s : Fin 4) (q : Fin 64) (j : Fin 512) (b : Fin 32) (hb : b.val = t.val * 4 + s.val) :
    (iblk m c 0 t : Vec Ideal S4x64x512 .bf16) (ix3 s q j) = (m ((c : Thread nD τ).loc main_arg0) : Vec Ideal S32x64x512 .bf16) (ix3 b q j) := by
  blk_ext [iblk, V, idx t]

theorem blk1 (c : Dev nD) (t : Fin cfg0.N) (s : Fin 4) (q : Fin 64) (j : Fin 512) (b : Fin 32) (hb : b.val = t.val * 4 + s.val) :
    (iblk m c 1 t : Vec Ideal S4x64x512 .bf16) (ix3 s q j) = (m ((c : Thread nD τ).loc main_arg1) : Vec Ideal S32x64x512 .bf16) (ix3 b q j) := by
  blk_ext [iblk, V, idx t]

theorem blk2 (c : Dev nD) (t : Fin cfg0.N) (s : Fin 4) (q : Fin 64) (j : Fin 512) (b : Fin 32) (hb : b.val = t.val * 4 + s.val) :
    (iblk m c 2 t : Vec Ideal S4x64x512 .bf16) (ix3 s q j) = (m ((c : Thread nD τ).loc main_arg2) : Vec Ideal S32x64x512 .bf16) (ix3 b q j) := by
  blk_ext [iblk, V, idx t]

theorem blk3 (c : Dev nD) (t : Fin cfg0.N) (s : Fin 4) (q : Fin 64) (j : Fin 128) (b : Fin 32) (hb : b.val = t.val * 4 + s.val) :
    (iblk m c 3 t : Vec Ideal S4x64x128 .f32) (ix3 s q j) = (m ((c : Thread nD τ).loc main_arg3) : Vec Ideal S32x64x128 .f32) (ix3 b q j) := by
  blk_ext [iblk, V, idx t]

theorem blk4 (c : Dev nD) (t : Fin cfg0.N) (s : Fin 4) (q : Fin 64) (j : Fin 512) (b : Fin 32) (hb : b.val = t.val * 4 + s.val) :
    (iblk m c 4 t : Vec Ideal S4x64x512 .f32) (ix3 s q j) = (m ((c : Thread nD τ).loc main_arg4) : Vec Ideal S32x64x512 .f32) (ix3 b q j) := by
  blk_ext [iblk, V, idx t]

theorem blk5 (c : Dev nD) (t : Fin cfg0.N) (s : Fin 4) (h : Fin 4) (e d : Fin 128) (b : Fin 32) (hb : b.val = t.val * 4 + s.val) :
    (iblk m c 5 t : Vec Ideal S4x4x128x128 .f32) (ix4 s h e d) = (m ((c : Thread nD τ).loc main_arg5) : Vec Ideal S32x4x128x128 .f32) (ix4 b h e d) := by
  blk_ext [iblk, V, idx t]

/-! The state's padded rows and the norm's weight, as the host code prepares them. -/

theorem pad_n (x : FVec Ideal S32x4x128 .f32) (z : FVec Ideal S_ .f32) (b : Fin 32) (r : Fin 8) (e : Fin 128) (h : Fin 4) (hr : r.val = h.val) :
    pad S32x8x128 ![0, 0, 0] ![0, 4, 0] ![0, 0, 0] x z pads_S32x4x128_S32x8x128_000_040_000 h_S_ (ix3 b r e) = x (ix3 b h e) := by
  pointwise
  rw [dif_pos (by omega)]
  exact congrArg (fun z => x (ix3 b z e)) (Fin.ext hr)

theorem pad_m (x : FVec Ideal S32x4 .f32) (z : FVec Ideal S_ .f32) (b : Fin 32) (r : Fin 8) (h : Fin 4) (hr : r.val = h.val) :
    pad S32x8 ![0, 0] ![0, 4] ![0, 0] x z pads_S32x4_S32x8_000_040 h_S_ (ix2 b r) = x (ix2 b h) := by
  pointwise
  rw [dif_pos (by omega)]
  exact congrArg (fun z => x (ix2 b z)) (Fin.ext hr)

theorem v0_at (c : Dev nD) (b : Fin 32) (r : Fin 8) (e : Fin 128) (h : Fin 4) (hr : r.val = h.val) :
    (V m c main_v0 : Vec Ideal S32x8x128 .f32) (ix3 b r e) = (m ((c : Thread nD τ).loc main_arg6) : Vec Ideal S32x4x128 .f32) (ix3 b h e) := by
  simp only [V, hostOps0, hostOps0_1, hostOps0_2, hostOps0_3, hostOps0_4, List.flatten_cons, List.flatten_nil, List.append_nil, List.cons_append,
    List.nil_append]
  entry_read
  exact pad_n (m ((c : Thread nD τ).loc main_arg6)) _ b r e h hr

theorem v3_at (c : Dev nD) (b : Fin 32) (r : Fin 8) (e : Fin 128) (h : Fin 4) (hr : r.val = h.val) :
    (V m c main_v3 : Vec Ideal S32x8x128 .f32) (ix3 b r e) = (m ((c : Thread nD τ).loc main_arg7) : Vec Ideal S32x4 .f32) (ix2 b h) := by
  simp only [V, hostOps0, hostOps0_1, hostOps0_2, hostOps0_3, hostOps0_4, List.flatten_cons, List.flatten_nil, List.append_nil, List.cons_append,
    List.nil_append]
  entry_read
  pointwise
  exact pad_m (m ((c : Thread nD τ).loc main_arg7)) _ b r h hr

theorem v4_at (c : Dev nD) (j : Fin 512) :
    (V m c main_v4 : Vec Ideal S1x512 .f32) (ix2 0 j) = (m ((c : Thread nD τ).loc main_arg8) : Vec Ideal S512 .f32) (ix1 j) := by
  simp only [V, hostOps0, hostOps0_1, hostOps0_2, hostOps0_3, hostOps0_4, List.flatten_cons, List.flatten_nil, List.append_nil, List.cons_append,
    List.nil_append]
  entry_read
  pointwise

theorem blk6 (c : Dev nD) (t : Fin cfg0.N) (s : Fin 4) (h : Fin 4) (e : Fin 128) (b : Fin 32) (hb : b.val = t.val * 4 + s.val) :
    (iblk m c 6 t : Vec Ideal S4x8x128 .f32) (ix3 s (r8 h) e) = (m ((c : Thread nD τ).loc main_arg6) : Vec Ideal S32x4x128 .f32) (ix3 b h e) := by
  refine Eq.trans ?_ (v0_at m c b (r8 h) e h rfl)
  blk_ext [iblk, idx t]

theorem blk7 (c : Dev nD) (t : Fin cfg0.N) (s : Fin 4) (h : Fin 4) (b : Fin 32) (hb : b.val = t.val * 4 + s.val) :
    (iblk m c 7 t : Vec Ideal S4x8x128 .f32) (ix3 s (r8 h) 0) = (m ((c : Thread nD τ).loc main_arg7) : Vec Ideal S32x4 .f32) (ix2 b h) := by
  refine Eq.trans ?_ (v3_at m c b (r8 h) 0 h rfl)
  blk_ext [iblk, idx t]

theorem blk8 (c : Dev nD) (t : Fin cfg0.N) (j : Fin 512) :
    (iblk m c 8 t : Vec Ideal S1x512 .f32) (ix2 0 j) = (m ((c : Thread nD τ).loc main_arg8) : Vec Ideal S512 .f32) (ix1 j) := by
  refine Eq.trans ?_ (v4_at m c j)
  blk_ext [iblk, idx t]

/-! The arguments, by sequence. -/

def aQ (c : Dev nD) (b : Fin 32) (t : Fin 64) (j : Fin 512) : EReal := (m ((c : Thread nD τ).loc main_arg0) : Vec Ideal S32x64x512 .bf16) (ix3 b t j)
def aK (c : Dev nD) (b : Fin 32) (t : Fin 64) (j : Fin 512) : EReal := (m ((c : Thread nD τ).loc main_arg1) : Vec Ideal S32x64x512 .bf16) (ix3 b t j)
def aV (c : Dev nD) (b : Fin 32) (t : Fin 64) (j : Fin 512) : EReal := (m ((c : Thread nD τ).loc main_arg2) : Vec Ideal S32x64x512 .bf16) (ix3 b t j)
def aG (c : Dev nD) (b : Fin 32) (t : Fin 64) (j : Fin 128) : EReal := (m ((c : Thread nD τ).loc main_arg3) : Vec Ideal S32x64x128 .f32) (ix3 b t j)
def aO (c : Dev nD) (b : Fin 32) (t : Fin 64) (j : Fin 512) : EReal := (m ((c : Thread nD τ).loc main_arg4) : Vec Ideal S32x64x512 .f32) (ix3 b t j)
def aC (c : Dev nD) (b : Fin 32) (h : Fin 4) (e d : Fin 128) : EReal := (m ((c : Thread nD τ).loc main_arg5) : Vec Ideal S32x4x128x128 .f32) (ix4 b h e d)
def aN (c : Dev nD) (b : Fin 32) (h : Fin 4) (e : Fin 128) : EReal := (m ((c : Thread nD τ).loc main_arg6) : Vec Ideal S32x4x128 .f32) (ix3 b h e)
def aM (c : Dev nD) (b : Fin 32) (h : Fin 4) : EReal := (m ((c : Thread nD τ).loc main_arg7) : Vec Ideal S32x4 .f32) (ix2 b h)
def aW (c : Dev nD) (j : Fin 512) : EReal := (m ((c : Thread nD τ).loc main_arg8) : Vec Ideal S512 .f32) (ix1 j)

/-- What sequence `s` of block `t` writes of the output. -/
theorem block_h (c : Dev nD) (t : Fin cfg0.N) (y : S4x64x512.Idx) (b : Fin 32) (hb : b.val = t.val * 4 + (y 0).val) :
    BlkH (iblk m c 0 t) (iblk m c 1 t) (iblk m c 2 t) (iblk m c 3 t) (iblk m c 4 t) (iblk m c 5 t) (iblk m c 6 t) (iblk m c 7 t) (iblk m c 8 t) y
      = seqOut (aG m c b) (aM m c b) (aQ m c b) (aK m c b) (aV m c b) (aC m c b) (aN m c b) (aO m c b) (aW m c)
        ⟨(y 2).val / 128, Nat.div_lt_of_lt_mul (y 2).isLt⟩ (y 1) ⟨(y 2).val % 128, Nat.mod_lt _ (by decide)⟩ := by
  unfold BlkH
  simp only [blk0 m c t _ _ _ b hb, blk1 m c t _ _ _ b hb, blk2 m c t _ _ _ b hb, blk3 m c t _ _ _ b hb, blk4 m c t _ _ _ b hb,
    blk5 m c t _ _ _ _ b hb, blk6 m c t _ _ _ b hb, blk7 m c t _ _ b hb, blk8]
  rfl

theorem block_c (c : Dev nD) (t : Fin cfg0.N) (y : S4x4x128x128.Idx) (b : Fin 32) (hb : b.val = t.val * 4 + (y 0).val) :
    BlkC (iblk m c 1 t) (iblk m c 2 t) (iblk m c 3 t) (iblk m c 5 t) (iblk m c 7 t) y
      = seqC (aG m c b) (aM m c b) (aK m c b) (aV m c b) (aC m c b) (y 1) (y 2) (y 3) := by
  unfold BlkC
  simp only [blk1 m c t _ _ _ b hb, blk2 m c t _ _ _ b hb, blk3 m c t _ _ _ b hb, blk5 m c t _ _ _ _ b hb, blk7 m c t _ _ b hb]
  rfl

theorem block_n (c : Dev nD) (t : Fin cfg0.N) (s : Fin 4) (h : Fin 4) (e : Fin 128) (b : Fin 32) (hb : b.val = t.val * 4 + s.val) :
    BlkN (iblk m c 1 t) (iblk m c 3 t) (iblk m c 6 t) (iblk m c 7 t) (ix3 s (r8 h) e) = seqN (aG m c b) (aM m c b) (aK m c b) (aN m c b) h e := by
  refine (N_row _ _ _ _ s h e).trans ?_
  simp only [blk1 m c t _ _ _ b hb, blk3 m c t _ _ _ b hb, blk6 m c t _ _ _ b hb, blk7 m c t _ _ b hb]
  rfl

theorem block_m (c : Dev nD) (t : Fin cfg0.N) (s : Fin 4) (h : Fin 4) (e : Fin 128) (b : Fin 32) (hb : b.val = t.val * 4 + s.val) :
    BlkM (iblk m c 3 t) (iblk m c 7 t) (ix3 s (r8 h) e) = seqM (aG m c b) (aM m c b) h := by
  refine (M_row _ _ s h e).trans ?_
  simp only [blk3 m c t _ _ _ b hb, blk7 m c t _ _ b hb]
  rfl

/-- The output the call returns. -/
theorem final_h (c : Dev nD) (R : Vec Ideal S32x64x512 .bf16)
    (hR : ∀ b h t d, R (ix3 b t (hd h d)) = seqOut (aG m c b) (aM m c b) (aQ m c b) (aK m c b) (aV m c b) (aC m c b) (aN m c b) (aO m c b) (aW m c) h t d) :
    (dats m 0 c).arrAt 9 cfg0.N = R := by
  refine (dats m 0 c).arrAt_eq_of_covers 9 R (by decide +kernel) fun t _ y => ?_
  blk_simp
  rw [after0_9, outH]
  have ht := lt8 t
  have hb : t.val * 4 + (y 0).val < 32 := by
    have h : (y 0).val < 4 := (y 0).isLt
    omega
  have e : ((cfg0.win 9).blk t).view.emb y = (ix3 ⟨t.val * 4 + (y 0).val, hb⟩ (y 1)
      (hd ⟨(y 2).val / 128, Nat.div_lt_of_lt_mul (y 2).isLt⟩ ⟨(y 2).val % 128, Nat.mod_lt _ (by decide)⟩) : S32x64x512.Idx) := by
    rw [show hd ⟨(y 2).val / 128, Nat.div_lt_of_lt_mul (y 2).isLt⟩ ⟨(y 2).val % 128, Nat.mod_lt _ (by decide)⟩ = (y 2 : Fin 512) from
      Fin.ext (Nat.div_add_mod' (y 2).val 128)]
    blk_ext [idx t]
  rw [e]
  exact (block_h m c t y _ rfl).trans (hR _ _ _ _).symm

/-- The matrix state the call returns. -/
theorem final_c (c : Dev nD) (R : Vec Ideal S32x4x128x128 .f32)
    (hR : ∀ b h e d, R (ix4 b h e d) = seqC (aG m c b) (aM m c b) (aK m c b) (aV m c b) (aC m c b) h e d) :
    (dats m 0 c).arrAt 10 cfg0.N = R := by
  refine (dats m 0 c).arrAt_eq_of_covers 10 R (by decide +kernel) fun t _ y => ?_
  blk_simp
  rw [after0_10, outC]
  have ht := lt8 t
  have hb : t.val * 4 + (y 0).val < 32 := by
    have h : (y 0).val < 4 := (y 0).isLt
    omega
  have e : ((cfg0.win 10).blk t).view.emb y = (ix4 ⟨t.val * 4 + (y 0).val, hb⟩ (y 1) (y 2) (y 3) : S32x4x128x128.Idx) := by
    blk_ext [idx t]
  rw [e]
  exact (block_c m c t y _ rfl).trans (hR _ _ _ _).symm

/-- The grid point that writes sequence `b`. -/
def pt (b : Fin 32) : Fin cfg0.N := ⟨b.val / 4, lt_of_lt_of_eq (show b.val / 4 < 8 by omega) (by decide +kernel)⟩
def ps (b : Fin 32) : Fin 4 := ⟨b.val % 4, by omega⟩

theorem pt_eq (t : Fin cfg0.N) (s : Fin 4) (b : Fin 32) (hb : b.val = t.val * 4 + s.val) : pt b = t ∧ ps b = s :=
  ⟨Fin.ext (by show b.val / 4 = t.val; omega), Fin.ext (by show b.val % 4 = s.val; omega)⟩

theorem pt_split (b : Fin 32) : b.val = (pt b).val * 4 + (ps b).val := by
  show b.val = b.val / 4 * 4 + b.val % 4
  omega

/-- The `n` rows the call returns, padding and all. -/
theorem arr_n (c : Dev nD) : (dats m 0 c).arrAt 11 cfg0.N = (fun y : S32x8x128.Idx => BlkN (iblk m c 1 (pt (y 0))) (iblk m c 3 (pt (y 0)))
    (iblk m c 6 (pt (y 0))) (iblk m c 7 (pt (y 0))) (ix3 (ps (y 0)) (y 1) (y 2))) := by
  refine (dats m 0 c).arrAt_eq_of_covers 11 _ (by decide +kernel) fun t _ y => ?_
  blk_simp
  rw [after0_11, outN]
  have ht := lt8 t
  have hb : t.val * 4 + (y 0).val < 32 := by
    have h : (y 0).val < 4 := (y 0).isLt
    omega
  have e : ((cfg0.win 11).blk t).view.emb y = (ix3 ⟨t.val * 4 + (y 0).val, hb⟩ (y 1) (y 2) : S32x8x128.Idx) := by
    blk_ext [idx t]
  rw [e]
  obtain ⟨e1, e2⟩ := pt_eq t (y 0) ⟨t.val * 4 + (y 0).val, hb⟩ rfl
  show BlkN _ _ _ _ y = BlkN (iblk m c 1 (pt ⟨t.val * 4 + (y 0).val, hb⟩)) (iblk m c 3 (pt ⟨t.val * 4 + (y 0).val, hb⟩))
    (iblk m c 6 (pt ⟨t.val * 4 + (y 0).val, hb⟩)) (iblk m c 7 (pt ⟨t.val * 4 + (y 0).val, hb⟩)) (ix3 (ps ⟨t.val * 4 + (y 0).val, hb⟩) (y 1) (y 2))
  rw [e1, e2]
  rfl

/-- The `m` rows the call returns, padding and all. -/
theorem arr_m (c : Dev nD) : (dats m 0 c).arrAt 12 cfg0.N = (fun y : S32x8x128.Idx => BlkM (iblk m c 3 (pt (y 0)))
    (iblk m c 7 (pt (y 0))) (ix3 (ps (y 0)) (y 1) (y 2))) := by
  refine (dats m 0 c).arrAt_eq_of_covers 12 _ (by decide +kernel) fun t _ y => ?_
  blk_simp
  rw [after0_12, outM]
  have ht := lt8 t
  have hb : t.val * 4 + (y 0).val < 32 := by
    have h : (y 0).val < 4 := (y 0).isLt
    omega
  have e : ((cfg0.win 12).blk t).view.emb y = (ix3 ⟨t.val * 4 + (y 0).val, hb⟩ (y 1) (y 2) : S32x8x128.Idx) := by
    blk_ext [idx t]
  rw [e]
  obtain ⟨e1, e2⟩ := pt_eq t (y 0) ⟨t.val * 4 + (y 0).val, hb⟩ rfl
  show BlkM _ _ y = BlkM (iblk m c 3 (pt ⟨t.val * 4 + (y 0).val, hb⟩)) (iblk m c 7 (pt ⟨t.val * 4 + (y 0).val, hb⟩))
    (ix3 (ps ⟨t.val * 4 + (y 0).val, hb⟩) (y 1) (y 2))
  rw [e1, e2]
  rfl

/-- The four head rows of `n`. -/
theorem final_n (c : Dev nD) (b : Fin 32) (r : Fin 8) (h : Fin 4) (hr : r.val = h.val) (e : Fin 128) :
    ((dats m 0 c).arrAt 11 cfg0.N : Vec Ideal S32x8x128 .f32) (ix3 b r e) = seqN (aG m c b) (aM m c b) (aK m c b) (aN m c b) h e := by
  obtain rfl : r = r8 h := Fin.ext hr
  exact (congrFun (arr_n m c) (ix3 b (r8 h) e)).trans (block_n m c (pt b) (ps b) h e b (pt_split b))

/-- The four head rows of `m`. -/
theorem final_m (c : Dev nD) (b : Fin 32) (r : Fin 8) (h : Fin 4) (hr : r.val = h.val) (e : Fin 128) :
    ((dats m 0 c).arrAt 12 cfg0.N : Vec Ideal S32x8x128 .f32) (ix3 b r e) = seqM (aG m c b) (aM m c b) h := by
  obtain rfl : r = r8 h := Fin.ext hr
  exact (congrFun (arr_m m c) (ix3 b (r8 h) e)).trans (block_m m c (pt b) (ps b) h e b (pt_split b))

end Cert.MlValue

end
-- ==== Proof.MlRef.lean ====
/- The plain mLSTM step, read at an entry. -/
module

public import proofs.«01_k».proof.Proof.Gen.ReferenceIdeal.Read
public import proofs.«01_k».proof.Proof.MlMath

@[expose] public section

set_option maxRecDepth 16384

noncomputable section

namespace Cert.MlRef

open Cert.ReferenceIdeal Cert.ReferenceIdeal.Gen Cert.ReferenceIdeal.Read Cert.MlMath Idealize.ShloMosaic Idealize.ShloMosaic.TcCoe

variable (x0 x1 x2 : FVec Ideal S32x64x512 .bf16) (x3 : FVec Ideal S32x64x128 .f32) (x4 : FVec Ideal S32x64x512 .f32)
  (x5 : FVec Ideal S32x4x128x128 .f32) (x6 : FVec Ideal S32x4x128 .f32) (x7 : FVec Ideal S32x4 .f32) (x8 : FVec Ideal S512 .f32)

/-- Head `h`'s gates of sequence `b`. -/
abbrev gi (b : Fin 32) (h : Fin 4) (s : Fin 64) : EReal := x3 (ix3 b s (il h))
abbrev gf (b : Fin 32) (h : Fin 4) (s : Fin 64) : EReal := x3 (ix3 b s (fl h))

theorem c_ninf : Ideal.ofBits .f32 4286578688#32 = ⊥ := by simp [Ideal.ofBits, Ideal.ieee]

/-! Sums over a window of the time axis. -/

theorem foldl_sum {n : Nat} (g : Fin n → EReal) (v : EReal) : (List.finRange n).foldl (fun r k => r + g k) v = v + ∑ k, g k := by
  have h : ∀ (l : List (Fin n)) (v : EReal), l.foldl (fun r k => r + g k) v = v + (l.map g).sum := by
    intro l
    induction l with
    | nil => intro v; simp
    | cons a l ih => intro v; simp [ih, add_assoc]
  rw [h, Fin.sum_univ_def]

/-- Entry `k` of a window of 64 along the last axis. -/
def winE : Fin 64 ≃ (⟨3, ![1, 1, 64]⟩ : Shape).Idx where
  toFun k := ix3 0 0 k
  invFun w := w 2
  left_inv _ := rfl
  right_inv w := by
    funext a
    fin_cases a
    · exact Subsingleton.elim (α := Fin 1) _ _
    · exact Subsingleton.elim (α := Fin 1) _ _
    · rfl

theorem shift_sum (x : Fin 64 → EReal) (t : Fin 64) :
    (∑ k : Fin 64, if h : 63 ≤ t.val + k.val then x ⟨t.val + k.val - 63, by omega⟩ else 0) = ∑ s, if s ≤ t then x s else 0 := by
  have e : ∀ s : Fin 64, (if s ≤ t then x s else 0) = if h : s ≤ t then x s else 0 := fun s => by split_ifs <;> rfl
  simp only [e]
  rw [← Finset.sum_filter_add_sum_filter_not Finset.univ (fun k : Fin 64 => 63 ≤ t.val + k.val),
    ← Finset.sum_filter_add_sum_filter_not Finset.univ (fun s : Fin 64 => s ≤ t)]
  refine congrArg₂ _ ?_ ?_
  · refine Finset.sum_bij' (fun k hk => ⟨t.val + k.val - 63, by omega⟩) (fun s hs => ⟨s.val + 63 - t.val, ?_⟩) ?_ ?_ ?_ ?_ ?_
    · have h : s ≤ t := (Finset.mem_filter.1 hs).2
      have h' : s.val ≤ t.val := h
      omega
    · intro k hk
      have h : 63 ≤ t.val + k.val := (Finset.mem_filter.1 hk).2
      refine Finset.mem_filter.2 ⟨Finset.mem_univ _, ?_⟩
      show t.val + k.val - 63 ≤ t.val
      omega
    · intro s hs
      refine Finset.mem_filter.2 ⟨Finset.mem_univ _, ?_⟩
      have h : s.val ≤ t.val := (Finset.mem_filter.1 hs).2
      show 63 ≤ t.val + (s.val + 63 - t.val)
      omega
    · intro k hk
      have h : 63 ≤ t.val + k.val := (Finset.mem_filter.1 hk).2
      refine Fin.ext ?_
      show t.val + k.val - 63 + 63 - t.val = k.val
      omega
    · intro s hs
      have h : s.val ≤ t.val := (Finset.mem_filter.1 hs).2
      refine Fin.ext ?_
      show t.val + (s.val + 63 - t.val) - 63 = s.val
      omega
    · intro k hk
      have h : 63 ≤ t.val + k.val := (Finset.mem_filter.1 hk).2
      have h' : (⟨t.val + k.val - 63, by omega⟩ : Fin 64) ≤ t := by
        show t.val + k.val - 63 ≤ t.val
        omega
      rw [dif_pos h, dif_pos h']
  · rw [Finset.sum_eq_zero fun k hk => dif_neg (Finset.mem_filter.1 hk).2, Finset.sum_eq_zero fun s hs => dif_neg (Finset.mem_filter.1 hs).2]

theorem cum (x : FVec Ideal S32x4x64 .f32) (v : FVec Ideal S_ .f32) (hv : v (Shape.Idx.first h_S_) = 0) (hw) (b : Fin 32) (h : Fin 4) (t : Fin 64) :
    Host.reduceWindowAdd (F := Ideal) (φ := .f32) ![1, 1, 64] ![1, 1, 1] ![0, 0, 63] ![0, 0, 0] x v hw h_S_ (ix3 b h t : S32x4x64.Idx)
      = ∑ s, if s ≤ t then x (ix3 b h s) else 0 := by
  rw [← shift_sum fun s => x (ix3 b h s)]
  unfold Host.reduceWindowAdd
  rw [hv, Ideal.hostReduceWindowAdd_def]
  unfold Ideal.hostReduceWindowAdd Host.reduceWindow
  refine (foldl_sum _ _).trans ?_
  rw [zero_add]
  refine (Equiv.sum_comp (winE.trans (Shape.rowMajor (s := ⟨3, ![1, 1, 64]⟩))) _).symm.trans ?_
  refine Finset.sum_congr rfl fun k _ => ?_
  dsimp only
  have hk : (Shape.rowMajor (s := ⟨3, ![1, 1, 64]⟩)).symm ((winE.trans (Shape.rowMajor (s := ⟨3, ![1, 1, 64]⟩))) k) = (ix3 0 0 k : (⟨3, ![1, 1, 64]⟩ : Shape).Idx) :=
    Equiv.symm_apply_apply _ _
  split
  · next hin =>
    have h2 := hin 2
    rw [hk] at h2
    have h3 : 63 ≤ t.val * 1 + k.val := h2.1
    rw [dif_pos (by omega)]
    refine congrArg x (funext fun a => Fin.ext ?_)
    dsimp only
    rw [hk]
    fin_cases a
    · show b.val * 1 + 0 - 0 = b.val
      omega
    · show h.val * 1 + 0 - 0 = h.val
      omega
    · show t.val * 1 + k.val - 63 = t.val + k.val - 63
      omega
  · next hin =>
    rw [dif_neg fun h3 => hin fun a => ?_]
    rw [hk]
    fin_cases a
    · show 0 ≤ b.val * 1 + 0 ∧ b.val * 1 + 0 - 0 < 32
      omega
    · show 0 ≤ h.val * 1 + 0 ∧ h.val * 1 + 0 - 0 < 4
      omega
    · show 63 ≤ t.val * 1 + k.val ∧ t.val * 1 + k.val - 63 < 64
      omega

theorem no_nan (x : EReal) : FloatOps.cmpf (F := Ideal) (φ := .f32) .une x x = 0#1 := by
  simp [Ideal.cmpf_def, Ideal.cmp]

theorem lf_at (b : Fin 32) (h : Fin 4) (s : Fin 64) : val_main_v13 (F := Ideal) x3 (ix3 b h s) = lsg (gf x3 b h s) := by
  unfold val_main_v13 val_main_call0_v1 val_main_call0_call0_v11 val_main_call0_call0_v10 val_main_call0_call0_v9 val_main_call0_call0_v8
    val_main_call0_call0_v7 val_main_call0_call0_v6 val_main_call0_call0_v5 val_main_call0_call0_v4 val_main_call0_call0_v3 val_main_call0_call0_v2
    val_main_call0_call0_v1 val_main_call0_call0_v0 val_main_call0_call0_cst val_main_call0_v0 val_main_v12 val_main_v11
  pointwise
  rw [if_neg (not_not.2 rfl)]
  exact lsg_neg _

theorem B_at (b : Fin 32) (h : Fin 4) (t : Fin 64) : val_main_v14 (F := Ideal) x3 (ix3 b h t) = bc (gf x3 b h) t := by
  unfold val_main_v14 bc
  refine (cum _ _ (by unfold val_main_call1_call0_v0 val_main_call1_call0_cst; pointwise) _ b h t).trans ?_
  simp only [lf_at]

theorem ig_at (b : Fin 32) (h : Fin 4) (s : Fin 64) : val_main_v10 (F := Ideal) x3 (ix3 b h s) = gi x3 b h s := by
  unfold val_main_v10 val_main_v9
  pointwise
  rfl

theorem q_at (b : Fin 32) (h : Fin 4) (t : Fin 64) (e : Fin 128) : val_main_v2 (F := Ideal) x0 (ix4 b h t e) = x0 (ix3 b t (hd h e)) := by
  unfold val_main_v2 val_main_v1 val_main_v0
  pointwise
  rfl

theorem k_at (b : Fin 32) (h : Fin 4) (t : Fin 64) (e : Fin 128) : val_main_v5 (F := Ideal) x1 (ix4 b h t e) = x1 (ix3 b t (hd h e)) := q_at x1 b h t e
theorem v_at (b : Fin 32) (h : Fin 4) (t : Fin 64) (e : Fin 128) : val_main_v8 (F := Ideal) x2 (ix4 b h t e) = x2 (ix3 b t (hd h e)) := q_at x2 b h t e

theorem sge_eq : ∀ t s : Fin 64, IntOp.cmpi .sge (IntOp.addi (BitVec.ofNat 32 t.val) 0#32) (BitVec.ofNat 32 s.val) = if s ≤ t then 1#1 else 0#1 := by
  decide +kernel

theorem lw_at (b : Fin 32) (h : Fin 4) (t s : Fin 64) : val_main_v25 (F := Ideal) x3 (ix4 b h t s) = lw (gi x3 b h) (gf x3 b h) t s := by
  unfold lw
  have hB := B_at x3 b h
  have hI := ig_at x3 b h
  unfold val_main_v25 val_main_call3_v2 val_main_call3_v1 val_main_call3_v0 val_main_cst val_main_v24 val_main_v23 val_main_v22 val_main_v21 val_main_v20 val_main_v19
    val_main_v18 val_main_v17 val_main_v16 val_main_v15 val_main_c val_main_call2_v5 val_main_call2_v4 val_main_call2_v3 val_main_call2_v2 val_main_call2_v1 val_main_call2_v0
    val_main_call2_c val_main_call2_c_0
  generalize val_main_v14 (F := Ideal) x3 = B at *
  generalize val_main_v10 (F := Ideal) x3 = I at *
  pointwise
  simp only [hB, hI]
  rw [sge_eq]
  split_ifs
  · rfl
  · exact c_ninf

theorem mt_at (b : Fin 32) (h : Fin 4) (t : Fin 64) :
    val_main_v30 (F := Ideal) x3 x7 (ix3 b h t) = MlMath.mt (gi x3 b h) (gf x3 b h) (x7 (ix2 b h)) t := by
  unfold MlMath.mt
  have hB := B_at x3 b h
  have hL := lw_at x3 b h
  unfold val_main_v30 val_main_v29 val_main_v28 val_main_v27 val_main_v26 val_main_cst_0
  generalize val_main_v14 (F := Ideal) x3 = B at *
  generalize val_main_v25 (F := Ideal) x3 = L at *
  pointwise
  simp only [hB, hL, c_ninf]
  rfl

theorem wt_at (b : Fin 32) (h : Fin 4) (t s : Fin 64) :
    val_main_v36 (F := Ideal) x3 x7 (ix4 b h t s) = wt (gi x3 b h) (gf x3 b h) (x7 (ix2 b h)) t s := by
  unfold wt
  rw [← lw_at, ← mt_at]
  unfold val_main_v36 val_main_v35 val_main_v34 val_main_v33
  generalize val_main_v30 (F := Ideal) x3 x7 = B
  generalize val_main_v25 (F := Ideal) x3 = L
  pointwise

theorem wi_at (b : Fin 32) (h : Fin 4) (t : Fin 64) :
    val_main_v32 (F := Ideal) x3 x7 (ix3 b h t) = wi (gi x3 b h) (gf x3 b h) (x7 (ix2 b h)) t := by
  unfold wi
  rw [← B_at, ← mt_at]
  unfold val_main_v32 val_main_v31 val_main_v28 val_main_v27 val_main_v26
  generalize val_main_v30 (F := Ideal) x3 x7 = B
  generalize val_main_v14 (F := Ideal) x3 = L
  pointwise

theorem ws_at (b : Fin 32) (h : Fin 4) (t s : Fin 64) :
    val_main_v38 (F := Ideal) x0 x1 x3 x7 (ix4 b h t s) = wt (gi x3 b h) (gf x3 b h) (x7 (ix2 b h)) t s
      * sc (fun t e => x0 (ix3 b t (hd h e))) (fun t e => x1 (ix3 b t (hd h e))) t s := by
  unfold sc
  have hq := q_at x0 b h
  have hk := k_at x1 b h
  rw [← wt_at]
  unfold val_main_v38 val_main_v37
  generalize val_main_v36 (F := Ideal) x3 x7 = B
  generalize val_main_v2 (F := Ideal) x0 = Q at *
  generalize val_main_v5 (F := Ideal) x1 = K at *
  pointwise
  simp only [hq, hk]

theorem nm_at (b : Fin 32) (h : Fin 4) (t : Fin 64) (d : Fin 128) :
    val_main_v44 (F := Ideal) x0 x1 x2 x3 x5 x7 (ix4 b h t d) = nm (gi x3 b h) (gf x3 b h) (x7 (ix2 b h)) (fun t e => x0 (ix3 b t (hd h e)))
      (fun t e => x1 (ix3 b t (hd h e))) (fun t e => x2 (ix3 b t (hd h e))) (fun e d => x5 (ix4 b h e d)) t d := by
  unfold nm
  have hs := ws_at x0 x1 x3 x7 b h
  have hv := v_at x2 b h
  have hw := wi_at x3 x7 b h
  have hq := q_at x0 b h
  unfold val_main_v44 val_main_v43 val_main_v42 val_main_v41 val_main_v40 val_main_v39
  generalize val_main_v38 (F := Ideal) x0 x1 x3 x7 = B at *
  generalize val_main_v32 (F := Ideal) x3 x7 = W at *
  generalize val_main_v2 (F := Ideal) x0 = Q at *
  generalize val_main_v8 (F := Ideal) x2 = K at *
  pointwise
  simp only [hs, hv, hw, hq]

theorem dn_at (b : Fin 32) (h : Fin 4) (t : Fin 64) :
    val_main_v48 (F := Ideal) x0 x1 x3 x6 x7 (ix3 b h t) = dn (gi x3 b h) (gf x3 b h) (x7 (ix2 b h)) (fun t e => x0 (ix3 b t (hd h e)))
      (fun t e => x1 (ix3 b t (hd h e))) (fun e => x6 (ix3 b h e)) t := by
  unfold dn
  have hs := ws_at x0 x1 x3 x7 b h
  have hw := wi_at x3 x7 b h
  have hq := q_at x0 b h
  unfold val_main_v48 val_main_v47 val_main_v46 val_main_v45 val_main_cst_1
  generalize val_main_v38 (F := Ideal) x0 x1 x3 x7 = B at *
  generalize val_main_v32 (F := Ideal) x3 x7 = W at *
  generalize val_main_v2 (F := Ideal) x0 = Q at *
  pointwise
  simp only [hs, hw, hq]

theorem hh_at (b : Fin 32) (h : Fin 4) (t : Fin 64) (d : Fin 128) :
    val_main_v55 (F := Ideal) x0 x1 x2 x3 x5 x6 x7 (ix4 b h t d) = hh (gi x3 b h) (gf x3 b h) (x7 (ix2 b h)) (fun t e => x0 (ix3 b t (hd h e)))
      (fun t e => x1 (ix3 b t (hd h e))) (fun t e => x2 (ix3 b t (hd h e))) (fun e d => x5 (ix4 b h e d)) (fun e => x6 (ix3 b h e)) t d := by
  unfold hh
  rw [← nm_at, ← dn_at, ← mt_at]
  unfold val_main_v55 val_main_v54 val_main_v53 val_main_v52 val_main_v51 val_main_v50 val_main_v49
  generalize val_main_v44 (F := Ideal) x0 x1 x2 x3 x5 x7 = B
  generalize val_main_v48 (F := Ideal) x0 x1 x3 x6 x7 = W
  generalize val_main_v30 (F := Ideal) x3 x7 = Q
  pointwise
  rfl

/-- The layer's output. -/
theorem out_at (b : Fin 32) (h : Fin 4) (t : Fin 64) (d : Fin 128) :
    val_main_v111 (F := Ideal) x0 x1 x2 x3 x4 x5 x6 x7 x8 (ix3 b t (hd h d)) = seqOut (fun s l => x3 (ix3 b s l)) (fun h => x7 (ix2 b h))
      (fun t j => x0 (ix3 b t j)) (fun t j => x1 (ix3 b t j)) (fun t j => x2 (ix3 b t j)) (fun h e d => x5 (ix4 b h e d)) (fun h e => x6 (ix3 b h e))
      (fun t j => x4 (ix3 b t j)) (fun j => x8 (ix1 j)) h t d := by
  unfold seqOut out rms
  simp only [← hh_at]
  unfold val_main_v111 val_main_v110 val_main_v109 val_main_v108 val_main_v107 val_main_v106 val_main_v105 val_main_v104 val_main_v99 val_main_v98 val_main_v97 val_main_v96
    val_main_v95 val_main_v94 val_main_v93 val_main_v92 val_main_v91 val_main_v90 val_main_v89 val_main_v88 val_main_v87 val_main_v86 val_main_v85 val_main_cst_3 val_main_cst_4
    val_main_cst_5 val_main_cst_8 val_main_cst_9
  generalize val_main_v55 (F := Ideal) x0 x1 x2 x3 x5 x6 x7 = B
  pointwise
  have d1 : (⟨(hd h d).val / 128, Nat.div_lt_of_lt_mul (hd h d).isLt⟩ : Fin 4) = h := Fin.ext (by simp only [hd]; omega)
  have d2 : (⟨(hd h d).val % 128, Nat.mod_lt _ (by decide)⟩ : Fin 128) = d := Fin.ext (by simp only [hd]; omega)
  simp only [d1, d2]

theorem me_at (b : Fin 32) (h : Fin 4) : val_main_v64 (F := Ideal) x3 x7 (ix2 b h) = me (gi x3 b h) (gf x3 b h) (x7 (ix2 b h)) := by
  unfold me
  have hB := B_at x3 b h
  have hI := ig_at x3 b h
  unfold val_main_v64 val_main_v63 val_main_v62 val_main_v61 val_main_v60 val_main_v59 val_main_v58 val_main_v57 val_main_v56 val_main_cst_2
  generalize val_main_v14 (F := Ideal) x3 = B at *
  generalize val_main_v10 (F := Ideal) x3 = I at *
  pointwise
  simp only [hB, hI, c_ninf]
  rfl

theorem de_at (b : Fin 32) (h : Fin 4) : val_main_v67 (F := Ideal) x3 x7 (ix2 b h) = de (gi x3 b h) (gf x3 b h) (x7 (ix2 b h)) := by
  unfold de
  rw [← B_at, ← me_at]
  unfold val_main_v67 val_main_v66 val_main_v65 val_main_v57 val_main_v56
  generalize val_main_v14 (F := Ideal) x3 = B
  generalize val_main_v64 (F := Ideal) x3 x7 = I
  pointwise

theorem gr_at (b : Fin 32) (h : Fin 4) (s : Fin 64) :
    val_main_v71 (F := Ideal) x3 x7 (ix3 b h s) = gr (gi x3 b h) (gf x3 b h) (x7 (ix2 b h)) s := by
  unfold gr
  rw [← B_at, ← B_at, ← ig_at, ← me_at]
  unfold val_main_v71 val_main_v70 val_main_v69 val_main_v68 val_main_v61 val_main_v60 val_main_v59 val_main_v58 val_main_v57 val_main_v56
  generalize val_main_v14 (F := Ideal) x3 = B
  generalize val_main_v10 (F := Ideal) x3 = J
  generalize val_main_v64 (F := Ideal) x3 x7 = I
  pointwise

/-- The new memory. -/
theorem C_at (b : Fin 32) (h : Fin 4) (e d : Fin 128) :
    val_main_v79 (F := Ideal) x1 x2 x3 x5 x7 (ix4 b h e d) = seqC (fun s l => x3 (ix3 b s l)) (fun h => x7 (ix2 b h))
      (fun t j => x1 (ix3 b t j)) (fun t j => x2 (ix3 b t j)) (fun h e d => x5 (ix4 b h e d)) h e d := by
  unfold seqC cn
  have hg := gr_at x3 x7 b h
  have hd := de_at x3 x7 b h
  have hk := k_at x1 b h
  have hv := v_at x2 b h
  unfold val_main_v79 val_main_v78 val_main_v77 val_main_v76 val_main_v75 val_main_v74 val_main_v73 val_main_v72
  generalize val_main_v71 (F := Ideal) x3 x7 = B at *
  generalize val_main_v67 (F := Ideal) x3 x7 = W at *
  generalize val_main_v5 (F := Ideal) x1 = Q at *
  generalize val_main_v8 (F := Ideal) x2 = K at *
  pointwise
  simp only [hg, hd, hk, hv]

/-- The new normaliser, in the first four of eight rows. -/
theorem N_at (b : Fin 32) (h : Fin 4) (r : Fin 8) (hr : r.val = h.val) (e : Fin 128) :
    val_main_v100 (F := Ideal) x1 x3 x6 x7 (ix3 b r e) = seqN (fun s l => x3 (ix3 b s l)) (fun h => x7 (ix2 b h))
      (fun t j => x1 (ix3 b t j)) (fun h e => x6 (ix3 b h e)) h e := by
  have hn : val_main_v84 (F := Ideal) x1 x3 x6 x7 (ix3 b h e) = seqN (fun s l => x3 (ix3 b s l)) (fun h => x7 (ix2 b h))
      (fun t j => x1 (ix3 b t j)) (fun h e => x6 (ix3 b h e)) h e := by
    unfold seqN nn
    have hg := gr_at x3 x7 b h
    have hd := de_at x3 x7 b h
    have hk := k_at x1 b h
    unfold val_main_v84 val_main_v83 val_main_v82 val_main_v81 val_main_v80
    generalize val_main_v71 (F := Ideal) x3 x7 = B at *
    generalize val_main_v67 (F := Ideal) x3 x7 = W at *
    generalize val_main_v5 (F := Ideal) x1 = Q at *
    pointwise
    simp only [hg, hd, hk]
  rw [← hn]
  unfold val_main_v100
  generalize val_main_v84 (F := Ideal) x1 x3 x6 x7 = B
  pointwise
  rw [dif_pos (by omega)]
  exact congrArg (fun z => B (ix3 b z e)) (Fin.ext hr)

/-- The new stabiliser, in the first four of eight rows. -/
theorem M_at (b : Fin 32) (h : Fin 4) (r : Fin 8) (hr : r.val = h.val) (e : Fin 128) :
    val_main_v103 (F := Ideal) x3 x7 (ix3 b r e) = seqM (fun s l => x3 (ix3 b s l)) (fun h => x7 (ix2 b h)) h := by
  refine Eq.trans ?_ (me_at x3 x7 b h)
  unfold val_main_v103 val_main_v102 val_main_v101
  generalize val_main_v64 (F := Ideal) x3 x7 = B
  pointwise
  rw [dif_pos (by omega)]
  exact congrArg (fun z => B (ix2 b z)) (Fin.ext hr)

end Cert.MlRef

end
-- ==== Proof.Ffn1Pay.lean ====
/- The values the first feed-forward call computes in a block, element by element. -/
module

public import proofs.«01_k».proof.Proof.Gen.Ffn1Ideal.Value
public import proofs.«01_k».proof.Proof.FfnMath

@[expose] public section

set_option maxRecDepth 16384

noncomputable section

namespace Cert.Ffn1Block

open Cert.Ffn1Ideal Cert.Ffn1Ideal.Gen Cert.FfnMath Idealize.ShloMosaic Idealize.ShloMosaic.TcCoe Idealize.SL.Sem
open Idealize.ShloMosaic.Pipeline (Dat)

section payloads

variable (a : Vec Ideal S1x9x1024 .f32) (g : Vec Ideal S1x1024 .f32)

/-- The first half's rows are prepared in one store. -/
theorem prepA_apply (x : Vec Ideal S1x512x1024 .f32) (j : S1x512x1024.Idx) :
    k0_pay2 a x g j = nrm (fun k => x (ix3 0 (j 1) k)) (fun k => a (ix3 0 0 k)) (fun k => a (ix3 0 1 k)) (fun k => g (ix2 0 k)) (j 2) := by
  idx_vars j
  unfold k0_pay2
  pointwise
  rfl

/-- The second half's rows are prepared 32 at a time, an added zero in front. -/
theorem prepB_apply (x : Vec Ideal S1x32x1024 .f32) (j : S1x32x1024.Idx) :
    k0_pay10 (k0_pay5 a) (k0_pay6 a) (k0_pay7 x) (k0_pay8 g) (k0_pay9 x) (FloatOps.ofBits FTy.f32 1149239296#32) j
      = nrm (fun k => x (ix3 0 (j 1) k)) (fun k => a (ix3 0 0 k)) (fun k => a (ix3 0 1 k)) (fun k => g (ix2 0 k)) (j 2) := by
  idx_vars j
  unfold k0_pay10 k0_pay5 k0_pay6 k0_pay9 k0_pay7 k0_pay8
  pointwise
  simp only [dite_eq_ite, ite_self, add_zero]
  rfl

/-- One chunk of 256 hidden columns. -/
theorem up_apply (h : Vec Ideal S1x512x1024 .bf16) (wg wu : Vec Ideal S1024x256 .bf16) (j : S1x512x256.Idx) :
    k0_pay4 (k0_pay3 h wg) h wu j
      = glu (∑ k, h (ix3 0 (j 1) k) * wg (ix2 k (j 2))) (∑ k, h (ix3 0 (j 1) k) * wu (ix2 k (j 2))) := by
  idx_vars j
  unfold k0_pay4 k0_pay3
  pointwise
  rfl

/-- The down projection, half the gate, the residual. -/
theorem down_apply (h : Vec Ideal S1x512x2816 .bf16) (d : Vec Ideal S2816x1024 .bf16) (x : Vec Ideal S1x512x1024 .f32) (j : S1x512x1024.Idx) :
    k0_pay1 (k0_pay110 h) d x a j
      = x (ix3 0 (j 1) (j 2)) + Ideal.ofBits .f32 1056964608#32 * a (ix3 0 2 (j 2)) * ∑ f, h (ix3 0 (j 1) f) * d (ix2 f (j 2)) := by
  idx_vars j
  unfold k0_pay1 k0_pay110
  pointwise
  obtain rfl : j0 = 0 := Subsingleton.elim _ _
  rfl

end payloads

variable (X : Vec Ideal S1x1024x1024 .f32) (a : Vec Ideal S1x9x1024 .f32) (g : Vec Ideal S1x1024 .f32)
  (W : Vec Ideal S1024x5632 .bf16) (D : Vec Ideal S2816x1024 .bf16)

/-- Row `r` of the block. -/
def row (r : Nat) (k : Fin 1024) : EReal := if h : r < 1024 then X (ix3 0 ⟨r, h⟩ k) else 0

/-- The prepared rows, as the two-slot scratch holds them. -/
def Hb : Vec Ideal S2x512x1024 .bf16 := fun y =>
  nrm (row X (512 * (y 0).val + (y 1).val)) (fun k => a (ix3 0 0 k)) (fun k => a (ix3 0 1 k)) (fun k => g (ix2 0 k)) (y 2)

/-- The hidden rows, as the second scratch holds them. -/
def Act : Vec Ideal S2x512x2816 .bf16 := fun y =>
  hid (fun k => Hb X a g (ix3 (y 0) (y 1) k)) (fun k f => W (ix2 k f)) (y 2)

/-- The block a grid point writes. -/
def Blk : Vec Ideal S1x1024x1024 .f32 := fun y =>
  half (row X (y 1).val) (fun k => a (ix3 0 0 k)) (fun k => a (ix3 0 1 k)) (fun k => a (ix3 0 2 k)) (fun k => g (ix2 0 k))
    (fun k f => W (ix2 k f)) (fun f e => D (ix2 f e)) (y 2)

/-- Slot 1 of the prepared rows. -/
abbrev hR : Rect S2x512x1024 := Rect.unit ![1, 0, 0] ![1, 512, 1024] inb_S2x512x1024_S1x512x1024_1_0_0

/-- Slots 0 and 1 of the hidden rows. -/
abbrev aR0 : Rect S2x512x2816 := Rect.unit ![0, 0, 0] ![1, 512, 2816] inb_S2x512x2816_S1x512x2816_0_0_0
abbrev aR1 : Rect S2x512x2816 := Rect.unit ![1, 0, 0] ![1, 512, 2816] inb_S2x512x2816_S1x512x2816_1_0_0

theorem row_ld (X : Vec Ideal S1x1024x1024 .f32) (o n : Nat) (inb : ∀ i, (![0, o, 0] : Fin 3 → Nat) i + (![1, n, 1024] : Fin 3 → Nat) i ≤ S1x1024x1024.size i)
    (r : Fin n) (q : Nat) (hq : q = o + r.val) :
    (fun k => View.ld (Val := Elt Ideal) (e' := .f32) X (Rect.unit ![0, o, 0] ![1, n, 1024] inb) (ix3 0 r k)) = row X q := by
  subst hq
  have h : o + r.val < 1024 := by
    have := r.isLt
    have h1 : o + n ≤ 1024 := by simpa using inb 1
    omega
  funext k
  unfold row
  rw [dif_pos h]
  refine congrArg X (funext fun i => ?_)
  fin_cases i <;> apply Fin.ext <;> simp [Rect.idx_unit_val, ix3]

theorem prepB_at (o o' : Nat) (inb : ∀ i, (![1, o, 0] : Fin 3 → Nat) i + (![1, 32, 1024] : Fin 3 → Nat) i ≤ S2x512x1024.size i)
    (inb' : ∀ i, (![0, o', 0] : Fin 3 → Nat) i + (![1, 32, 1024] : Fin 3 → Nat) i ≤ S1x1024x1024.size i) (x : S1x32x1024.Idx) (ho : o' = 512 + o) :
    k0_pay10 (k0_pay5 a) (k0_pay6 a) (k0_pay7 (View.ld (Val := Elt Ideal) (e' := .f32) X (Rect.unit ![0, o', 0] ![1, 32, 1024] inb')))
      (k0_pay8 g) (k0_pay9 (View.ld (Val := Elt Ideal) (e' := .f32) X (Rect.unit ![0, o', 0] ![1, 32, 1024] inb'))) (FloatOps.ofBits FTy.f32 1149239296#32) x
      = Hb X a g ((Rect.unit ![1, o, 0] ![1, 32, 1024] inb : Rect S2x512x1024).emb x) := by
  refine (prepB_apply _ _ _ _).trans ?_
  rw [row_ld X o' 32 inb' (x 1) (512 + (o + (x 1).val)) (by omega)]
  have h0 : (x 0).val = 0 := by have h : (x 0).val < 1 := (x 0).isLt; omega
  unfold Hb
  congr 1
  · congr 1
    simp [h0]
  · apply Fin.ext
    simp

theorem prepA_at (inb : ∀ i, (![0, 0, 0] : Fin 3 → Nat) i + (![1, 512, 1024] : Fin 3 → Nat) i ≤ S2x512x1024.size i)
    (inb' : ∀ i, (![0, 0, 0] : Fin 3 → Nat) i + (![1, 512, 1024] : Fin 3 → Nat) i ≤ S1x1024x1024.size i) (x : S1x512x1024.Idx) :
    k0_pay2 a (View.ld (Val := Elt Ideal) (e' := .f32) X (Rect.unit ![0, 0, 0] ![1, 512, 1024] inb')) g x
      = Hb X a g ((Rect.unit ![0, 0, 0] ![1, 512, 1024] inb : Rect S2x512x1024).emb x) := by
  refine (prepA_apply _ _ _ _).trans ?_
  rw [row_ld X 0 512 inb' (x 1) (x 1).val (by omega)]
  have h0 : (x 0).val = 0 := by have h : (x 0).val < 1 := (x 0).isLt; omega
  unfold Hb
  congr 1
  · congr 1
    simp [h0]
  · apply Fin.ext
    simp

theorem ldW (o : Nat) (inb : ∀ i, (![0, o] : Fin 2 → Nat) i + (![1024, 256] : Fin 2 → Nat) i ≤ S1024x5632.size i) (k : Fin 1024) (f : Fin 256)
    (q : Fin 5632) (hq : q.val = o + f.val) :
    View.ld (Val := Elt Ideal) (e' := .bf16) W (Rect.unit ![0, o] ![1024, 256] inb) (ix2 k f) = W (ix2 k q) := by
  refine congrArg W (funext fun i => ?_)
  fin_cases i <;> apply Fin.ext <;> simp [ix2, hq]

/-- A chunk of hidden columns, stored at slot `s`, column `o`. -/
theorem up_at (s : Nat) (hs : s < 2) (o o' : Nat) (h : Vec Ideal S1x512x1024 .bf16) (hh : ∀ r k, h (ix3 0 r k) = Hb X a g (ix3 ⟨s, hs⟩ r k))
    (inb : ∀ i, (![s, 0, o] : Fin 3 → Nat) i + (![1, 512, 256] : Fin 3 → Nat) i ≤ S2x512x2816.size i)
    (inb1 : ∀ i, (![0, o] : Fin 2 → Nat) i + (![1024, 256] : Fin 2 → Nat) i ≤ S1024x5632.size i)
    (inb2 : ∀ i, (![0, o'] : Fin 2 → Nat) i + (![1024, 256] : Fin 2 → Nat) i ≤ S1024x5632.size i)
    (ho : o' = 2816 + o) (x : S1x512x256.Idx) :
    k0_pay4 (k0_pay3 h (View.ld (Val := Elt Ideal) (e' := .bf16) W (Rect.unit ![0, o] ![1024, 256] inb1))) h
        (View.ld (Val := Elt Ideal) (e' := .bf16) W (Rect.unit ![0, o'] ![1024, 256] inb2)) x
      = Act X a g W ((Rect.unit ![s, 0, o] ![1, 512, 256] inb : Rect S2x512x2816).emb x) := by
  refine (up_apply _ _ _ _).trans ?_
  have h0 : (x 0).val = 0 := by have h : (x 0).val < 1 := (x 0).isLt; omega
  have e0 : ((Rect.unit ![s, 0, o] ![1, 512, 256] inb : Rect S2x512x2816).emb x) 0 = (⟨s, hs⟩ : Fin 2) := by
    apply Fin.ext; simp [h0]
  have e1 : ((Rect.unit ![s, 0, o] ![1, 512, 256] inb : Rect S2x512x2816).emb x) 1 = x 1 := by
    apply Fin.ext; simp
  have e2 : (((Rect.unit ![s, 0, o] ![1, 512, 256] inb : Rect S2x512x2816).emb x) 2).val = o + (x 2).val := by
    simp
  unfold Act hid
  rw [e0, e1]
  congr 1 <;> refine Finset.sum_congr rfl fun k _ => ?_
  · exact congrArg₂ _ (hh (x 1) k) (ldW W o inb1 k (x 2) _ e2)
  · exact congrArg₂ _ (hh (x 1) k) (ldW W o' inb2 k (x 2) _ (by simp only [e2]; omega))

/-- The rows a slot's finishing step writes. -/
theorem down_at (s : Nat) (hs : s < 2) (o : Nat) (ho : o = 512 * s) (h : Vec Ideal S1x512x2816 .bf16) (hh : ∀ r f, h (ix3 0 r f) = Act X a g W (ix3 ⟨s, hs⟩ r f))
    (inb : ∀ i, (![0, o, 0] : Fin 3 → Nat) i + (![1, 512, 1024] : Fin 3 → Nat) i ≤ S1x1024x1024.size i) (x : S1x512x1024.Idx) :
    k0_pay1 (k0_pay110 h) D (View.ld (Val := Elt Ideal) (e' := .f32) X (Rect.unit ![0, o, 0] ![1, 512, 1024] inb)) a x
      = Blk X a g W D ((Rect.unit ![0, o, 0] ![1, 512, 1024] inb : Rect S1x1024x1024).emb x) := by
  refine (down_apply _ _ _ _ _).trans ?_
  have e1 : (((Rect.unit ![0, o, 0] ![1, 512, 1024] inb : Rect S1x1024x1024).emb x) 1).val = 512 * s + (x 1).val := by
    simp [ho]
  have e2 : ((Rect.unit ![0, o, 0] ![1, 512, 1024] inb : Rect S1x1024x1024).emb x) 2 = x 2 := by
    apply Fin.ext; simp
  have hx := congrFun (row_ld X o 512 inb (x 1) (512 * s + (x 1).val) (by omega)) (x 2)
  unfold Blk half
  rw [e1, e2]
  refine congrArg₂ _ hx (congrArg _ (Finset.sum_congr rfl fun f _ => ?_))
  exact congrArg (· * D (ix2 f (x 2))) (hh (x 1) f)

end Cert.Ffn1Block

end
-- ==== Proof.Ffn1Block.lean ====
/- What one grid point of the first feed-forward call writes: a block of rows of the half step. -/
module

public import proofs.«01_k».proof.Proof.Gen.Ffn1Ideal.Value
public import proofs.«01_k».proof.Proof.Ffn1Pay

@[expose] public section

set_option maxRecDepth 16384

noncomputable section

namespace Cert.Ffn1Block

open Cert.Ffn1Ideal Cert.Ffn1Ideal.Gen Cert.FfnMath Idealize.ShloMosaic Idealize.ShloMosaic.TcCoe Idealize.SL.Sem
open Idealize.ShloMosaic.Pipeline (Dat)

variable (m : (ℓ : Loc nD τ sig) → Buf (Elt Ideal) ℓ)

set_option pp.maxSteps 300 in
set_option maxHeartbeats 4000000 in
/-- What a grid point writes is the block of the half step. -/
theorem outs_eq (c : Dev nD) (t : Fin cfg0.N) : outsAt0 m c t = Blk (iblk m c 0 t) (iblk m c 1 t) (iblk m c 2 t) (iblk m c 3 t) (iblk m c 4 t) := by
  unfold outsAt0
  frame_open
  simp (disch := decide) only [↓ View.readCov_skip, ↓ View.readCov_cons_toLoadRect, ↓ View.readCov_fill,
    View.read_writes_junk_eq_canon, View.readAt_eq_ld, Memref.IsWhole.read_unread, View.ld_unit_lit']
  rw [readCov_of_chain (View.whole cc0_scratch0) (Hb (iblk m c 0 t) (iblk m c 1 t) (iblk m c 2 t)) _ hR 1 32 15 ?h ?c]
  case h =>
    iterate 16 refine pieces_cons (fun x => prepB_at _ _ _ _ _ _ _ x rfl) ?_
    exact pieces_cons (fun x => prepA_at _ _ _ inb_S2x512x1024_S1x512x1024_0_0_0 _ x) trivial
  case c => sl_kernel_rfl
  have h0 : ∀ r k, k0_pay2 (iblk m c 1 t) (View.ld (Val := Elt Ideal) (e' := .f32) (iblk m c 0 t) (Rect.unit ![0, 0, 0] ![1, 512, 1024] inb_S1x1024x1024_S1x512x1024_0_0_0)) (iblk m c 2 t) (ix3 0 r k)
      = Hb (iblk m c 0 t) (iblk m c 1 t) (iblk m c 2 t) (ix3 ⟨0, by decide⟩ r k) := fun r k => by
    refine (prepA_at _ _ _ inb_S2x512x1024_S1x512x1024_0_0_0 _ _).trans (congrArg _ (funext fun i => ?_))
    fin_cases i <;> apply Fin.ext <;> simp [ix3]
  have h1 : ∀ r k, View.ld (Val := Elt Ideal) (e' := .bf16) (Hb (iblk m c 0 t) (iblk m c 1 t) (iblk m c 2 t)) hR (ix3 0 r k)
      = Hb (iblk m c 0 t) (iblk m c 1 t) (iblk m c 2 t) (ix3 ⟨1, by decide⟩ r k) := fun r k => by
    refine congrArg (Hb (iblk m c 0 t) (iblk m c 1 t) (iblk m c 2 t)) (funext fun i => ?_)
    fin_cases i <;> apply Fin.ext <;> simp [ix3]
  have hA : ∀ (q : Nat) (hq : q < 2) (inb) r f, View.ld (Val := Elt Ideal) (e' := .bf16) (Act (iblk m c 0 t) (iblk m c 1 t) (iblk m c 2 t) (iblk m c 3 t))
      (Rect.unit ![q, 0, 0] ![1, 512, 2816] inb) (ix3 0 r f)
      = Act (iblk m c 0 t) (iblk m c 1 t) (iblk m c 2 t) (iblk m c 3 t) (ix3 ⟨q, hq⟩ r f) := fun q hq inb r f => by
    refine congrArg (Act (iblk m c 0 t) (iblk m c 1 t) (iblk m c 2 t) (iblk m c 3 t)) (funext fun i => ?_)
    fin_cases i <;> apply Fin.ext <;> simp [ix3]
  rw [readCov_of_chain (View.whole cc0_scratch1) (Act (iblk m c 0 t) (iblk m c 1 t) (iblk m c 2 t) (iblk m c 3 t)) _ aR1 2 256 10 ?h ?c]
  case h =>
    iterate 11 refine pieces_cons (fun x => up_at (iblk m c 0 t) (iblk m c 1 t) (iblk m c 2 t) (iblk m c 3 t) 1 (by decide) _ _ _ h1 _ _ _ rfl x) ?_
    iterate 11 refine pieces_cons (fun x => up_at (iblk m c 0 t) (iblk m c 1 t) (iblk m c 2 t) (iblk m c 3 t) 0 (by decide) _ _ _ h0 _ _ _ rfl x) ?_
    trivial
  case c => sl_kernel_rfl
  rw [readCov_of_chain (View.whole cc0_scratch1) (Act (iblk m c 0 t) (iblk m c 1 t) (iblk m c 2 t) (iblk m c 3 t)) _ aR0 2 256 10 ?h ?c]
  case h =>
    iterate 11 refine pieces_cons (fun x => up_at (iblk m c 0 t) (iblk m c 1 t) (iblk m c 2 t) (iblk m c 3 t) 0 (by decide) _ _ _ h0 _ _ _ rfl x) ?_
    trivial
  case c => sl_kernel_rfl
  refine canon_of_pieces _ _ (pieces_cons (fun x => ?_) (pieces_cons (fun x => ?_) trivial)) ?_
  · exact down_at (iblk m c 0 t) (iblk m c 1 t) (iblk m c 2 t) (iblk m c 3 t) (iblk m c 4 t) 1 (by decide) _ rfl _ (hA 1 (by decide) _) _ x
  · exact down_at (iblk m c 0 t) (iblk m c 1 t) (iblk m c 2 t) (iblk m c 3 t) (iblk m c 4 t) 0 (by decide) _ rfl _ (hA 0 (by decide) _) _ x
  · exact View.cover_of_tiledL _ ![1, 512, 1024] (by sl_kernel_rfl)

end Cert.Ffn1Block

end
-- ==== Proof.Ffn1.lean ====
/- The first feed-forward call returns the plain half step. -/
module

public import proofs.«01_k».proof.Proof.Ffn1Block

@[expose] public section

set_option maxRecDepth 16384

noncomputable section

namespace Cert.Ffn1Value

open Cert.Ffn1Ideal Cert.Ffn1Ideal.Gen Cert.FfnMath Cert.Ffn1Block Idealize.ShloMosaic Idealize.ShloMosaic.TcCoe Idealize.SL.Sem
open Idealize.ShloMosaic.Pipeline (Dat)

variable (m : (ℓ : Loc nD τ sig) → Buf (Elt Ideal) ℓ)

/-- The index maps at every grid point. -/
theorem idx : ∀ t : Fin cfg0.N, win0_0.index t = ![t.val / 16, t.val % 16, 0] ∧ win0_1.index t = ![t.val / 16, 0, 0] ∧ win0_2.index t = ![0, 0]
    ∧ win0_3.index t = ![0, 0] ∧ win0_4.index t = ![0, 0] ∧ win0_6.index t = ![t.val / 16, t.val % 16, 0] ∧ t.val / 16 < 2 :=
  (by decide +kernel : ∀ t : Fin grid0.N, _)

theorem blk0 (c : Dev nD) (t : Fin cfg0.N) (r : Fin 1024) (k : Fin 1024) (b : Fin 2) (q : Fin 16384) (hb : b.val = t.val / 16)
    (hq : q.val = t.val % 16 * 1024 + r.val) :
    (iblk m c 0 t : Vec Ideal S1x1024x1024 .f32) (ix3 0 r k) = (m ((c : Thread nD τ).loc main_arg0) : Vec Ideal S2x16384x1024 .f32) (ix3 b q k) := by
  blk_ext [iblk, V, idx t]

theorem blk1 (c : Dev nD) (t : Fin cfg0.N) (s : Fin 9) (k : Fin 1024) (b : Fin 2) (hb : b.val = t.val / 16) :
    (iblk m c 1 t : Vec Ideal S1x9x1024 .f32) (ix3 0 s k) = (m ((c : Thread nD τ).loc main_arg1) : Vec Ideal S2x9x1024 .f32) (ix3 b s k) := by
  blk_ext [iblk, V, idx t]

theorem blk2 (c : Dev nD) (t : Fin cfg0.N) (k : Fin 1024) :
    (iblk m c 2 t : Vec Ideal S1x1024 .f32) (ix2 0 k) = (m ((c : Thread nD τ).loc main_arg2) : Vec Ideal S1024 .f32) (ix1 k) := by
  blk_point [iblk, V, idx t]

theorem blk3 (c : Dev nD) (t : Fin cfg0.N) (k : Fin 1024) (f : Fin 5632) :
    (iblk m c 3 t : Vec Ideal S1024x5632 .bf16) (ix2 k f) = (m ((c : Thread nD τ).loc main_arg3) : Vec Ideal S1024x5632 .f32) (ix2 k f) := by
  blk_point [iblk, V, idx t]

theorem blk4 (c : Dev nD) (t : Fin cfg0.N) (f : Fin 2816) (e : Fin 1024) :
    (iblk m c 4 t : Vec Ideal S2816x1024 .bf16) (ix2 f e) = (m ((c : Thread nD τ).loc main_arg4) : Vec Ideal S2816x1024 .f32) (ix2 f e) := by
  blk_point [iblk, V, idx t]

/-- The half step of row `q` of batch `b`, from the arguments. -/
def rowOut (c : Dev nD) (b : Fin 2) (q : Fin 16384) (e : Fin 1024) : EReal :=
  half (fun k => (m ((c : Thread nD τ).loc main_arg0) : Vec Ideal S2x16384x1024 .f32) (ix3 b q k))
    (fun k => (m ((c : Thread nD τ).loc main_arg1) : Vec Ideal S2x9x1024 .f32) (ix3 b 0 k))
    (fun k => (m ((c : Thread nD τ).loc main_arg1) : Vec Ideal S2x9x1024 .f32) (ix3 b 1 k))
    (fun k => (m ((c : Thread nD τ).loc main_arg1) : Vec Ideal S2x9x1024 .f32) (ix3 b 2 k))
    (fun k => (m ((c : Thread nD τ).loc main_arg2) : Vec Ideal S1024 .f32) (ix1 k))
    (fun k f => (m ((c : Thread nD τ).loc main_arg3) : Vec Ideal S1024x5632 .f32) (ix2 k f))
    (fun f e => (m ((c : Thread nD τ).loc main_arg4) : Vec Ideal S2816x1024 .f32) (ix2 f e)) e

/-- A row of a block is the half step of the row of the array it sits at. -/
theorem block_row (c : Dev nD) (t : Fin cfg0.N) (y : S1x1024x1024.Idx) (b : Fin 2) (q : Fin 16384) (hb : b.val = t.val / 16)
    (hq : q.val = t.val % 16 * 1024 + (y 1).val) :
    Blk (iblk m c 0 t) (iblk m c 1 t) (iblk m c 2 t) (iblk m c 3 t) (iblk m c 4 t) y = rowOut m c b q (y 2) := by
  unfold Blk rowOut
  simp only [blk1 m c t _ _ b hb, blk2, blk3, blk4]
  congr 1
  funext k
  unfold row
  rw [dif_pos (show (y 1).val < 1024 from (y 1).isLt)]
  exact blk0 m c t _ _ _ _ hb hq

/-- The array the call returns: the half step of every row. -/
theorem final (c : Dev nD) (R : Vec Ideal S2x16384x1024 .f32) (hR : ∀ b r e, R (ix3 b r e) = rowOut m c b r e) :
    (dats m 0 c).arrAt 6 cfg0.N = R := by
  refine (dats m 0 c).arrAt_eq_of_covers 6 R (by decide +kernel) fun t _ y => ?_
  blk_simp
  rw [after0_6, outs_eq]
  have hb : t.val / 16 < 2 := (idx t).2.2.2.2.2.2
  have hq : t.val % 16 * 1024 + (y 1).val < 16384 := by
    have h : (y 1).val < 1024 := (y 1).isLt
    omega
  have e : ((cfg0.win 6).blk t).view.emb y = (ix3 ⟨t.val / 16, hb⟩ ⟨t.val % 16 * 1024 + (y 1).val, hq⟩ (y 2) : S2x16384x1024.Idx) := by
    blk_ext [idx t]
  rw [e]
  exact (block_row m c t y _ _ rfl rfl).trans (hR _ _ _).symm

end Cert.Ffn1Value

end
-- ==== Proof.Ffn1Ref.lean ====
/- The plain feed-forward half step, read at an index. -/
module

public import proofs.«01_k».proof.Proof.Gen.RefFfn1Ideal.Read
public import proofs.«01_k».proof.Proof.FfnMath

@[expose] public section

set_option maxRecDepth 16384

noncomputable section

namespace Cert.Ffn1Ref

open Cert.RefFfn1Ideal Cert.RefFfn1Ideal.Gen Cert.RefFfn1Ideal.Read Cert.FfnMath Idealize.ShloMosaic Idealize.ShloMosaic.TcCoe

variable (x0 : FVec Ideal S2x16384x1024 .f32) (x1 : FVec Ideal S2x9x1024 .f32) (x2 : FVec Ideal S1024 .f32)
  (x3 : FVec Ideal S1024x5632 .f32) (x4 : FVec Ideal S2816x1024 .f32)

/-- The normed, scaled and shifted row. -/
theorem nrm_at (b : Fin 2) (r : Fin 16384) (k : Fin 1024) :
    val_main_v21 (F := Ideal) x0 x1 x2 (ix3 b r k)
      = nrm (fun k => x0 (ix3 b r k)) (fun k => x1 (ix3 b 0 k)) (fun k => x1 (ix3 b 1 k)) (fun k => x2 (ix1 k)) k := by
  pointwise [val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v1, val_main_v0, val_main_cst, val_main_cst_0, val_main_cst_1, val_main_cst_2]
  unfold nrm irms
  rw [mul_assoc (x0 (ix3 b r k) * _)]

/-- The hidden row. -/
theorem hid_at (b : Fin 2) (r : Fin 16384) (f : Fin 2816) :
    val_main_v28 (F := Ideal) x0 x1 x2 x3 (ix3 b r f)
      = hid (fun k => val_main_v21 (F := Ideal) x0 x1 x2 (ix3 b r k)) (fun k f => x3 (ix2 k f)) f := by
  unfold val_main_v28 val_main_v27 val_main_call0_v5 val_main_call0_v4 val_main_call0_v3 val_main_call0_v2 val_main_call0_v1 val_main_call0_v0
    val_main_call0_cst val_main_call0_cst_0 val_main_v24 val_main_v23 val_main_v22
  generalize val_main_v21 (F := Ideal) x0 x1 x2 = z
  pointwise
  unfold hid glu
  rw [zero_sub]

/-- The result. -/
theorem half_at (b : Fin 2) (r : Fin 16384) (e : Fin 1024) :
    val_main_v32 (F := Ideal) x0 x1 x2 x3 x4 (ix3 b r e)
      = half (fun k => x0 (ix3 b r k)) (fun k => x1 (ix3 b 0 k)) (fun k => x1 (ix3 b 1 k)) (fun k => x1 (ix3 b 2 k)) (fun k => x2 (ix1 k))
          (fun k f => x3 (ix2 k f)) (fun f e => x4 (ix2 f e)) e := by
  unfold val_main_v32 val_main_v31 val_main_v30 val_main_v29 val_main_v26 val_main_v25 val_main_cst_3 val_main_v2
  have h := hid_at x0 x1 x2 x3 b r
  simp only [nrm_at] at h
  generalize val_main_v28 (F := Ideal) x0 x1 x2 x3 = z at *
  pointwise
  unfold half
  simp only [h]

end Cert.Ffn1Ref

end
-- ==== Proof.Ffn2Eq.lean ====
/- The stores of the last call that compute the same, piece by piece, written the same. -/
module

public import proofs.«01_k».proof.Proof.Gen.Ffn2Ideal.Value
public import proofs.«01_k».proof.Proof.FfnMath

@[expose] public section

set_option maxRecDepth 16384

noncomputable section

namespace Cert.Ffn2Block

open Cert.Ffn2Ideal Cert.Ffn2Ideal.Gen Idealize.ShloMosaic Idealize.ShloMosaic.TcCoe

variable (a : Vec Ideal S1x9x1024 .f32) (g : Vec Ideal S1x1024 .f32) (b : Vec Ideal S32x1024 .f32) (x z : Vec Ideal S1x32x1024 .f32)
  (h : Vec Ideal S1x512x1024 .bf16) (w u : Vec Ideal S1024x256 .bf16)

theorem res_eq1 : (k0_pay18 (F := Ideal)) ((k0_pay15 (F := Ideal)) b) ((k0_pay16 (F := Ideal)) a) x = (k0_pay12 (F := Ideal)) b a x := rfl
theorem res_eq2 : (k0_pay27 (F := Ideal)) b a x = (k0_pay12 (F := Ideal)) b a x := rfl
theorem res_eq3 : (k0_pay31 (F := Ideal)) ((k0_pay30 (F := Ideal)) b) a x = (k0_pay12 (F := Ideal)) b a x := rfl
theorem res_eq4 : (k0_pay41 (F := Ideal)) ((k0_pay37 (F := Ideal)) b) x ((k0_pay40 (F := Ideal)) a) = (k0_pay12 (F := Ideal)) b a x := rfl
theorem res_eq5 : (k0_pay45 (F := Ideal)) ((k0_pay44 (F := Ideal)) b) a x = (k0_pay12 (F := Ideal)) b a x := rfl
theorem res_eq6 : (k0_pay55 (F := Ideal)) ((k0_pay51 (F := Ideal)) b) ((k0_pay52 (F := Ideal)) a) x = (k0_pay12 (F := Ideal)) b a x := rfl
theorem res_eq7 : (k0_pay59 (F := Ideal)) ((k0_pay58 (F := Ideal)) b) a x = (k0_pay12 (F := Ideal)) b a x := rfl
theorem res_eq8 : (k0_pay68 (F := Ideal)) ((k0_pay64 (F := Ideal)) b) ((k0_pay65 (F := Ideal)) a) x = (k0_pay12 (F := Ideal)) b a x := rfl
theorem res_eq9 : (k0_pay71 (F := Ideal)) b a x = (k0_pay12 (F := Ideal)) b a x := rfl
theorem res_eq10 : (k0_pay79 (F := Ideal)) ((k0_pay76 (F := Ideal)) b) ((k0_pay77 (F := Ideal)) a) x = (k0_pay12 (F := Ideal)) b a x := rfl
theorem res_eq11 : (k0_pay82 (F := Ideal)) b a x = (k0_pay12 (F := Ideal)) b a x := rfl
theorem res_eq12 : (k0_pay88 (F := Ideal)) ((k0_pay87 (F := Ideal)) b) a x = (k0_pay12 (F := Ideal)) b a x := rfl
theorem res_eq13 : (k0_pay91 (F := Ideal)) b a x = (k0_pay12 (F := Ideal)) b a x := rfl
theorem res_eq14 : (k0_pay98 (F := Ideal)) ((k0_pay97 (F := Ideal)) b) a x = (k0_pay12 (F := Ideal)) b a x := rfl
theorem res_eq15 : (k0_pay100 (F := Ideal)) b a x = (k0_pay12 (F := Ideal)) b a x := rfl

theorem prep_eq2 : (k0_pay28 (F := Ideal)) (k0_pay24 (F := Ideal)) ((k0_pay25 (F := Ideal)) a) ((k0_pay26 (F := Ideal)) a) z g = (k0_pay13 (F := Ideal)) (k0_pay9 (F := Ideal)) ((k0_pay10 (F := Ideal)) a) ((k0_pay11 (F := Ideal)) a) z g := rfl
theorem prep_eq1 : (k0_pay19 (F := Ideal)) (k0_pay14 (F := Ideal)) ((k0_pay15 (F := Ideal)) b) a ((k0_pay16 (F := Ideal)) a) ((k0_pay17 (F := Ideal)) a) x g = (k0_pay13 (F := Ideal)) (k0_pay9 (F := Ideal)) ((k0_pay10 (F := Ideal)) a) ((k0_pay11 (F := Ideal)) a) ((k0_pay12 (F := Ideal)) b a x) g := rfl
theorem prep_eq3 : (k0_pay32 (F := Ideal)) (k0_pay29 (F := Ideal)) ((k0_pay30 (F := Ideal)) b) a x g = (k0_pay13 (F := Ideal)) (k0_pay9 (F := Ideal)) ((k0_pay10 (F := Ideal)) a) ((k0_pay11 (F := Ideal)) a) ((k0_pay12 (F := Ideal)) b a x) g := rfl
theorem prep_eq4 : (k0_pay42 (F := Ideal)) (k0_pay36 (F := Ideal)) ((k0_pay37 (F := Ideal)) b) ((k0_pay38 (F := Ideal)) a) ((k0_pay39 (F := Ideal)) a) x ((k0_pay40 (F := Ideal)) a) g = (k0_pay13 (F := Ideal)) (k0_pay9 (F := Ideal)) ((k0_pay10 (F := Ideal)) a) ((k0_pay11 (F := Ideal)) a) ((k0_pay12 (F := Ideal)) b a x) g := rfl
theorem prep_eq5 : (k0_pay46 (F := Ideal)) (k0_pay43 (F := Ideal)) ((k0_pay44 (F := Ideal)) b) a x g = (k0_pay13 (F := Ideal)) (k0_pay9 (F := Ideal)) ((k0_pay10 (F := Ideal)) a) ((k0_pay11 (F := Ideal)) a) ((k0_pay12 (F := Ideal)) b a x) g := rfl
theorem prep_eq6 : (k0_pay56 (F := Ideal)) (k0_pay50 (F := Ideal)) ((k0_pay51 (F := Ideal)) b) ((k0_pay52 (F := Ideal)) a) ((k0_pay53 (F := Ideal)) a) ((k0_pay54 (F := Ideal)) a) x g = (k0_pay13 (F := Ideal)) (k0_pay9 (F := Ideal)) ((k0_pay10 (F := Ideal)) a) ((k0_pay11 (F := Ideal)) a) ((k0_pay12 (F := Ideal)) b a x) g := rfl
theorem prep_eq7 : (k0_pay60 (F := Ideal)) (k0_pay57 (F := Ideal)) ((k0_pay58 (F := Ideal)) b) a x g = (k0_pay13 (F := Ideal)) (k0_pay9 (F := Ideal)) ((k0_pay10 (F := Ideal)) a) ((k0_pay11 (F := Ideal)) a) ((k0_pay12 (F := Ideal)) b a x) g := rfl
theorem prep_eq8 : (k0_pay69 (F := Ideal)) (k0_pay63 (F := Ideal)) ((k0_pay64 (F := Ideal)) b) ((k0_pay65 (F := Ideal)) a) ((k0_pay66 (F := Ideal)) a) ((k0_pay67 (F := Ideal)) a) x g = (k0_pay13 (F := Ideal)) (k0_pay9 (F := Ideal)) ((k0_pay10 (F := Ideal)) a) ((k0_pay11 (F := Ideal)) a) ((k0_pay12 (F := Ideal)) b a x) g := rfl
theorem prep_eq9 : (k0_pay72 (F := Ideal)) (k0_pay70 (F := Ideal)) b a x g = (k0_pay13 (F := Ideal)) (k0_pay9 (F := Ideal)) ((k0_pay10 (F := Ideal)) a) ((k0_pay11 (F := Ideal)) a) ((k0_pay12 (F := Ideal)) b a x) g := rfl
theorem prep_eq10 : (k0_pay80 (F := Ideal)) (k0_pay75 (F := Ideal)) ((k0_pay76 (F := Ideal)) b) a ((k0_pay77 (F := Ideal)) a) ((k0_pay78 (F := Ideal)) a) x g = (k0_pay13 (F := Ideal)) (k0_pay9 (F := Ideal)) ((k0_pay10 (F := Ideal)) a) ((k0_pay11 (F := Ideal)) a) ((k0_pay12 (F := Ideal)) b a x) g := rfl
theorem prep_eq11 : (k0_pay83 (F := Ideal)) (k0_pay81 (F := Ideal)) b a x g = (k0_pay13 (F := Ideal)) (k0_pay9 (F := Ideal)) ((k0_pay10 (F := Ideal)) a) ((k0_pay11 (F := Ideal)) a) ((k0_pay12 (F := Ideal)) b a x) g := rfl
theorem prep_eq12 : (k0_pay89 (F := Ideal)) (k0_pay86 (F := Ideal)) ((k0_pay87 (F := Ideal)) b) a x g = (k0_pay13 (F := Ideal)) (k0_pay9 (F := Ideal)) ((k0_pay10 (F := Ideal)) a) ((k0_pay11 (F := Ideal)) a) ((k0_pay12 (F := Ideal)) b a x) g := rfl
theorem prep_eq13 : (k0_pay93 (F := Ideal)) ((k0_pay92 (F := Ideal)) (k0_pay90 (F := Ideal)) b a x g) = (k0_pay13 (F := Ideal)) (k0_pay9 (F := Ideal)) ((k0_pay10 (F := Ideal)) a) ((k0_pay11 (F := Ideal)) a) ((k0_pay12 (F := Ideal)) b a x) g := rfl
theorem prep_eq14 : (k0_pay99 (F := Ideal)) (k0_pay96 (F := Ideal)) ((k0_pay97 (F := Ideal)) b) a x g = (k0_pay13 (F := Ideal)) (k0_pay9 (F := Ideal)) ((k0_pay10 (F := Ideal)) a) ((k0_pay11 (F := Ideal)) a) ((k0_pay12 (F := Ideal)) b a x) g := rfl
theorem prep_eq15 : (k0_pay102 (F := Ideal)) ((k0_pay101 (F := Ideal)) b a x g) = (k0_pay13 (F := Ideal)) (k0_pay9 (F := Ideal)) ((k0_pay10 (F := Ideal)) a) ((k0_pay11 (F := Ideal)) a) ((k0_pay12 (F := Ideal)) b a x) g := rfl

theorem up_eq1 : (k0_pay23 (F := Ideal)) ((k0_pay20 (F := Ideal)) h) ((k0_pay21 (F := Ideal)) w) h u = (k0_pay8 (F := Ideal)) ((k0_pay7 (F := Ideal)) h w) h u := rfl
theorem up_eq2 : (k0_pay35 (F := Ideal)) ((k0_pay33 (F := Ideal)) h) w h u = (k0_pay8 (F := Ideal)) ((k0_pay7 (F := Ideal)) h w) h u := rfl
theorem up_eq3 : (k0_pay49 (F := Ideal)) ((k0_pay47 (F := Ideal)) h) w h u = (k0_pay8 (F := Ideal)) ((k0_pay7 (F := Ideal)) h w) h u := rfl
theorem up_eq4 : (k0_pay62 (F := Ideal)) h w h u = (k0_pay8 (F := Ideal)) ((k0_pay7 (F := Ideal)) h w) h u := rfl
theorem up_eq5 : (k0_pay74 (F := Ideal)) h w h u = (k0_pay8 (F := Ideal)) ((k0_pay7 (F := Ideal)) h w) h u := rfl
theorem up_eq6 : (k0_pay85 (F := Ideal)) h w h u = (k0_pay8 (F := Ideal)) ((k0_pay7 (F := Ideal)) h w) h u := rfl
theorem up_eq7 : (k0_pay95 (F := Ideal)) h w h u = (k0_pay8 (F := Ideal)) ((k0_pay7 (F := Ideal)) h w) h u := rfl
theorem up_eq8 : (k0_pay103 (F := Ideal)) h w h u = (k0_pay8 (F := Ideal)) ((k0_pay7 (F := Ideal)) h w) h u := rfl
theorem up_eq9 : (k0_pay105 (F := Ideal)) ((k0_pay104 (F := Ideal)) h w) h u = (k0_pay8 (F := Ideal)) ((k0_pay7 (F := Ideal)) h w) h u := rfl
theorem up_eq10 : (k0_pay110 (F := Ideal)) ((k0_pay106 (F := Ideal)) h w) ((k0_pay107 (F := Ideal)) h u) ((k0_pay108 (F := Ideal)) h w) (k0_pay109 (F := Ideal)) = (k0_pay8 (F := Ideal)) ((k0_pay7 (F := Ideal)) h w) h u := rfl
theorem up_eq11 : (k0_pay112 (F := Ideal)) h w h u = (k0_pay8 (F := Ideal)) ((k0_pay7 (F := Ideal)) h w) h u := rfl
theorem up_eq12 : (k0_pay114 (F := Ideal)) ((k0_pay113 (F := Ideal)) h w) h u = (k0_pay8 (F := Ideal)) ((k0_pay7 (F := Ideal)) h w) h u := rfl
theorem up_eq13 : (k0_pay118 (F := Ideal)) ((k0_pay115 (F := Ideal)) h w) ((k0_pay116 (F := Ideal)) h u) ((k0_pay117 (F := Ideal)) h w) = (k0_pay8 (F := Ideal)) ((k0_pay7 (F := Ideal)) h w) h u := rfl
theorem up_eq14 : (k0_pay119 (F := Ideal)) h w h u = (k0_pay8 (F := Ideal)) ((k0_pay7 (F := Ideal)) h w) h u := rfl
theorem up_eq15 : (k0_pay121 (F := Ideal)) ((k0_pay120 (F := Ideal)) h) w h u = (k0_pay8 (F := Ideal)) ((k0_pay7 (F := Ideal)) h w) h u := rfl
theorem up_eq16 : (k0_pay125 (F := Ideal)) ((k0_pay122 (F := Ideal)) h w) ((k0_pay123 (F := Ideal)) h u) ((k0_pay124 (F := Ideal)) h w) = (k0_pay8 (F := Ideal)) ((k0_pay7 (F := Ideal)) h w) h u := rfl
theorem up_eq17 : (k0_pay126 (F := Ideal)) h w h u = (k0_pay8 (F := Ideal)) ((k0_pay7 (F := Ideal)) h w) h u := rfl
theorem up_eq18 : (k0_pay127 (F := Ideal)) h w h u = (k0_pay8 (F := Ideal)) ((k0_pay7 (F := Ideal)) h w) h u := rfl
theorem up_eq19 : (k0_pay131 (F := Ideal)) ((k0_pay128 (F := Ideal)) h w) ((k0_pay129 (F := Ideal)) h) ((k0_pay130 (F := Ideal)) u) = (k0_pay8 (F := Ideal)) ((k0_pay7 (F := Ideal)) h w) h u := rfl
theorem up_eq20 : (k0_pay133 (F := Ideal)) ((k0_pay132 (F := Ideal)) h w h u) = (k0_pay8 (F := Ideal)) ((k0_pay7 (F := Ideal)) h w) h u := rfl
theorem up_eq21 : (k0_pay134 (F := Ideal)) h w h u = (k0_pay8 (F := Ideal)) ((k0_pay7 (F := Ideal)) h w) h u := rfl

end Cert.Ffn2Block

end
-- ==== Proof.Ffn2Pay.lean ====
/- The values the last call computes in a block, element by element. -/
module

public import proofs.«01_k».proof.Proof.Gen.Ffn2Ideal.Value
public import proofs.«01_k».proof.Proof.FfnMath

@[expose] public section

set_option maxRecDepth 16384

noncomputable section

namespace Cert.Ffn2Block

open Cert.Ffn2Ideal Cert.Ffn2Ideal.Gen Cert.FfnMath Idealize.ShloMosaic Idealize.ShloMosaic.TcCoe Idealize.SL.Sem
open Idealize.ShloMosaic.Pipeline (Dat)

section payloads

variable (a : Vec Ideal S1x9x1024 .f32) (g : Vec Ideal S1x1024 .f32)

/-- The first half's output projection. -/
theorem mixA_apply (h t : Vec Ideal S1x512x512 .bf16) (w v : Vec Ideal S512x1024 .bf16) (j : S1x512x1024.Idx) :
    k0_pay2 h w t v j = (∑ k, h (ix3 0 (j 1) k) * w (ix2 k (j 2))) + ∑ k, t (ix3 0 (j 1) k) * v (ix2 k (j 2)) := by
  idx_vars j
  unfold k0_pay2
  pointwise

/-- The second half's. -/
theorem mixB_apply (h t : Vec Ideal S1x512x512 .bf16) (w v : Vec Ideal S512x1024 .bf16) (j : S512x1024.Idx) :
    k0_pay3 h w t v j = (∑ k, h (ix3 0 (j 0) k) * w (ix2 k (j 1))) + ∑ k, t (ix3 0 (j 0) k) * v (ix2 k (j 1)) := by
  idx_vars j
  unfold k0_pay3
  pointwise

/-- The first half's residual rows. -/
theorem resA_apply (mx : Vec Ideal S1x512x1024 .f32) (x : Vec Ideal S1x512x1024 .f32) (j : S1x512x1024.Idx) :
    k0_pay5 mx (k0_pay4 a) x j = x j + a (ix3 0 5 (j 2)) * mx j := by
  idx_vars j
  unfold k0_pay5 k0_pay4
  pointwise

/-- The second half's, 32 rows at a time. -/
theorem resB_apply (mx : Vec Ideal S32x1024 .f32) (x : Vec Ideal S1x32x1024 .f32) (j : S1x32x1024.Idx) :
    k0_pay12 mx a x j = x (ix3 0 (j 1) (j 2)) + a (ix3 0 5 (j 2)) * mx (ix2 (j 1) (j 2)) := by
  idx_vars j
  unfold k0_pay12
  pointwise
  obtain rfl : j0 = 0 := Subsingleton.elim _ _
  rfl

/-- The first half's rows are normed in one store. -/
theorem prepA_apply (mx : Vec Ideal S1x512x1024 .f32) (x : Vec Ideal S1x512x1024 .f32) (j : S1x512x1024.Idx) :
    k0_pay6 mx a (k0_pay4 a) x g j = nrm (fun k => k0_pay5 mx (k0_pay4 a) x (ix3 0 (j 1) k)) (fun k => a (ix3 0 6 k)) (fun k => a (ix3 0 7 k)) (fun k => g (ix2 0 k)) (j 2) := by
  idx_vars j
  unfold k0_pay6
  generalize k0_pay5 mx (k0_pay4 a) x = z
  pointwise
  rfl

/-- The second half's rows are normed 32 at a time, an added zero in front. -/
theorem prepB_apply (z : Vec Ideal S1x32x1024 .f32) (j : S1x32x1024.Idx) :
    k0_pay13 k0_pay9 (k0_pay10 a) (k0_pay11 a) z g j
      = nrm (fun k => z (ix3 0 (j 1) k)) (fun k => a (ix3 0 6 k)) (fun k => a (ix3 0 7 k)) (fun k => g (ix2 0 k)) (j 2) := by
  idx_vars j
  unfold k0_pay13 k0_pay9 k0_pay10 k0_pay11
  pointwise
  simp only [dite_eq_ite, ite_self, add_zero]
  rfl

/-- One chunk of 256 hidden columns. -/
theorem up_apply (h : Vec Ideal S1x512x1024 .bf16) (wg wu : Vec Ideal S1024x256 .bf16) (j : S1x512x256.Idx) :
    k0_pay8 (k0_pay7 h wg) h wu j
      = glu (∑ k, h (ix3 0 (j 1) k) * wg (ix2 k (j 2))) (∑ k, h (ix3 0 (j 1) k) * wu (ix2 k (j 2))) := by
  idx_vars j
  unfold k0_pay8 k0_pay7
  pointwise
  rfl

/-- The down projection, half the gate, the residual. -/
theorem down_apply (h : Vec Ideal S1x512x2816 .bf16) (d : Vec Ideal S2816x1024 .bf16) (x : Vec Ideal S1x512x1024 .f32) (j : S1x512x1024.Idx) :
    k0_pay136 (k0_pay135 h d) x a j
      = x (ix3 0 (j 1) (j 2)) + Ideal.ofBits .f32 1056964608#32 * a (ix3 0 8 (j 2)) * ∑ f, h (ix3 0 (j 1) f) * d (ix2 f (j 2)) := by
  idx_vars j
  unfold k0_pay136 k0_pay135
  pointwise
  obtain rfl : j0 = 0 := Subsingleton.elim _ _
  rfl

/-- The final norm. -/
theorem last_apply (h : Vec Ideal S1x512x2816 .bf16) (d : Vec Ideal S2816x1024 .bf16) (x : Vec Ideal S1x512x1024 .f32) (j : S1x512x1024.Idx) :
    k0_pay1 (k0_pay136 (k0_pay135 h d) x a) (k0_pay137 (k0_pay135 h d) x a) k0_pay138 g j
      = fin (fun e => k0_pay136 (k0_pay135 h d) x a (ix3 0 (j 1) e)) (fun e => g (ix2 0 e)) (j 2) := by
  idx_vars j
  unfold k0_pay1 k0_pay137 k0_pay138
  generalize k0_pay136 (k0_pay135 h d) x a = z
  pointwise
  obtain rfl : j0 = 0 := Subsingleton.elim _ _
  rfl

/-- The first half is finished in one piece. -/
theorem last_eq (h : Vec Ideal S1x512x2816 .bf16) (d : Vec Ideal S2816x1024 .bf16) (x : Vec Ideal S1x512x1024 .f32) :
    k0_pay111 h d x a g = k0_pay1 (k0_pay136 (k0_pay135 h d) x a) (k0_pay137 (k0_pay135 h d) x a) k0_pay138 g := rfl

end payloads

variable (X : Vec Ideal S1x1024x1024 .f32) (H T : Vec Ideal S1x1024x512 .bf16) (a : Vec Ideal S1x9x1024 .f32) (g : Vec Ideal S1x1024 .f32)
  (O : Vec Ideal S1024x1024 .bf16) (W : Vec Ideal S1024x5632 .bf16) (D : Vec Ideal S2816x1024 .bf16) (gf : Vec Ideal S1x1024 .f32)

/-- Row `r` of a block. -/
def row (X : Vec Ideal S1x1024x1024 .f32) (r : Nat) (k : Fin 1024) : EReal := if h : r < 1024 then X (ix3 0 ⟨r, h⟩ k) else 0

/-- The block after the mixer's residual step. -/
def Rs : Vec Ideal S1x1024x1024 .f32 := fun y =>
  X y + a (ix3 0 5 (y 2)) * mix (fun k => H (ix3 0 (y 1) k)) (fun k => T (ix3 0 (y 1) k)) (fun k e => O (ix2 k e)) (y 2)

/-- The prepared rows of a block `Z`, as the two-slot scratch holds them. -/
def Hb (Z : Vec Ideal S1x1024x1024 .f32) : Vec Ideal S2x512x1024 .bf16 := fun y =>
  nrm (row Z (512 * (y 0).val + (y 1).val)) (fun k => a (ix3 0 6 k)) (fun k => a (ix3 0 7 k)) (fun k => g (ix2 0 k)) (y 2)

/-- The hidden rows, as the second scratch holds them. -/
def Act (Z : Vec Ideal S1x1024x1024 .f32) : Vec Ideal S2x512x2816 .bf16 := fun y =>
  hid (fun k => Hb a g Z (ix3 (y 0) (y 1) k)) (fun k f => W (ix2 k f)) (y 2)

/-- The block a grid point writes, from the block `Z` after the mixer. -/
def Blk (Z : Vec Ideal S1x1024x1024 .f32) : Vec Ideal S1x1024x1024 .f32 := fun y =>
  fin (half (row Z (y 1).val) (fun k => a (ix3 0 6 k)) (fun k => a (ix3 0 7 k)) (fun k => a (ix3 0 8 k)) (fun k => g (ix2 0 k))
    (fun k f => W (ix2 k f)) (fun f e => D (ix2 f e))) (fun e => gf (ix2 0 e)) (y 2)

/-- Slot 1 of the prepared rows. -/
abbrev hR : Rect S2x512x1024 := Rect.unit ![1, 0, 0] ![1, 512, 1024] inb_S2x512x1024_S1x512x1024_1_0_0

/-- Slots 0 and 1 of the hidden rows. -/
abbrev aR0 : Rect S2x512x2816 := Rect.unit ![0, 0, 0] ![1, 512, 2816] inb_S2x512x2816_S1x512x2816_0_0_0
abbrev aR1 : Rect S2x512x2816 := Rect.unit ![1, 0, 0] ![1, 512, 2816] inb_S2x512x2816_S1x512x2816_1_0_0

/-- The second half's rows of the block. -/
abbrev xR : Rect S1x1024x1024 := Rect.unit ![0, 512, 0] ![1, 512, 1024] inb_S1x1024x1024_S1x512x1024_0_512_0

/-- The two halves' projections, as the call computes them. -/
abbrev MixA : FVec Ideal S1x512x1024 .f32 :=
  k0_pay2 (View.ld (Val := Elt Ideal) (e' := .bf16) H (Rect.unit ![0, 0, 0] ![1, 512, 512] inb_S1x1024x512_S1x512x512_0_0_0))
    (View.ld (Val := Elt Ideal) (e' := .bf16) O (Rect.unit ![0, 0] ![512, 1024] inb_S1024x1024_S512x1024_0_0))
    (View.ld (Val := Elt Ideal) (e' := .bf16) T (Rect.unit ![0, 0, 0] ![1, 512, 512] inb_S1x1024x512_S1x512x512_0_0_0))
    (View.ld (Val := Elt Ideal) (e' := .bf16) O (Rect.unit ![512, 0] ![512, 1024] inb_S1024x1024_S512x1024_512_0))
abbrev MixB : FVec Ideal S512x1024 .f32 :=
  k0_pay3 (View.ld (Val := Elt Ideal) (e' := .bf16) H (Rect.unit ![0, 512, 0] ![1, 512, 512] inb_S1x1024x512_S1x512x512_0_512_0))
    (View.ld (Val := Elt Ideal) (e' := .bf16) O (Rect.unit ![0, 0] ![512, 1024] inb_S1024x1024_S512x1024_0_0))
    (View.ld (Val := Elt Ideal) (e' := .bf16) T (Rect.unit ![0, 512, 0] ![1, 512, 512] inb_S1x1024x512_S1x512x512_0_512_0))
    (View.ld (Val := Elt Ideal) (e' := .bf16) O (Rect.unit ![512, 0] ![512, 1024] inb_S1024x1024_S512x1024_512_0))

theorem ldO (o : Nat) (inb : ∀ i, (![o, 0] : Fin 2 → Nat) i + (![512, 1024] : Fin 2 → Nat) i ≤ S1024x1024.size i) (k : Fin 512) (e : Fin 1024)
    (q : Fin 1024) (hq : q.val = o + k.val) :
    View.ld (Val := Elt Ideal) (e' := .bf16) O (Rect.unit ![o, 0] ![512, 1024] inb) (ix2 k e) = O (ix2 q e) := by
  refine congrArg O (funext fun i => ?_)
  fin_cases i <;> apply Fin.ext <;> simp [ix2, hq]

theorem ldH (o : Nat) (inb : ∀ i, (![0, o, 0] : Fin 3 → Nat) i + (![1, 512, 512] : Fin 3 → Nat) i ≤ S1x1024x512.size i) (r k : Fin 512)
    (q : Fin 1024) (hq : q.val = o + r.val) :
    View.ld (Val := Elt Ideal) (e' := .bf16) H (Rect.unit ![0, o, 0] ![1, 512, 512] inb) (ix3 0 r k) = H (ix3 0 q k) := by
  refine congrArg H (funext fun i => ?_)
  fin_cases i <;> apply Fin.ext <;> simp [ix3, hq]

theorem mixA_at (r : Fin 512) (e : Fin 1024) (q : Fin 1024) (hq : q.val = r.val) :
    MixA H T O (ix3 0 r e) = mix (fun k => H (ix3 0 q k)) (fun k => T (ix3 0 q k)) (fun k e => O (ix2 k e)) e := by
  refine (mixA_apply _ _ _ _ _).trans ?_
  refine congrArg₂ _ (Finset.sum_congr rfl fun k _ => ?_) (Finset.sum_congr rfl fun k _ => ?_)
  · exact congrArg₂ _ (ldH H 0 _ r k q (by omega)) (ldO O 0 _ k e _ (by simp))
  · exact congrArg₂ _ (ldH T 0 _ r k q (by omega)) (ldO O 512 _ k e _ rfl)

theorem mixB_at (r : Fin 512) (e : Fin 1024) (q : Fin 1024) (hq : q.val = 512 + r.val) :
    MixB H T O (ix2 r e) = mix (fun k => H (ix3 0 q k)) (fun k => T (ix3 0 q k)) (fun k e => O (ix2 k e)) e := by
  refine (mixB_apply _ _ _ _ _).trans ?_
  refine congrArg₂ _ (Finset.sum_congr rfl fun k _ => ?_) (Finset.sum_congr rfl fun k _ => ?_)
  · exact congrArg₂ _ (ldH H 512 _ r k q hq) (ldO O 0 _ k e _ (by simp))
  · exact congrArg₂ _ (ldH T 512 _ r k q hq) (ldO O 512 _ k e _ rfl)

theorem row_ld (X : Vec Ideal S1x1024x1024 .f32) (o n : Nat) (inb : ∀ i, (![0, o, 0] : Fin 3 → Nat) i + (![1, n, 1024] : Fin 3 → Nat) i ≤ S1x1024x1024.size i)
    (r : Fin n) (q : Nat) (hq : q = o + r.val) :
    (fun k => View.ld (Val := Elt Ideal) (e' := .f32) X (Rect.unit ![0, o, 0] ![1, n, 1024] inb) (ix3 0 r k)) = row X q := by
  subst hq
  have h : o + r.val < 1024 := by
    have := r.isLt
    have h1 : o + n ≤ 1024 := by simpa using inb 1
    omega
  funext k
  unfold row
  rw [dif_pos h]
  refine congrArg X (funext fun i => ?_)
  fin_cases i <;> apply Fin.ext <;> simp [Rect.idx_unit_val, ix3]

/-- The residual rows of the first half. -/
theorem resA_at (inb : ∀ i, (![0, 0, 0] : Fin 3 → Nat) i + (![1, 512, 1024] : Fin 3 → Nat) i ≤ S1x1024x1024.size i) (x : S1x512x1024.Idx) :
    k0_pay5 (MixA H T O) (k0_pay4 a) (View.ld (Val := Elt Ideal) (e' := .f32) X (Rect.unit ![0, 0, 0] ![1, 512, 1024] inb)) x
      = Rs X H T a O ((Rect.unit ![0, 0, 0] ![1, 512, 1024] inb : Rect S1x1024x1024).emb x) := by
  refine (resA_apply _ _ _ _).trans ?_
  have e2 : ((Rect.unit ![0, 0, 0] ![1, 512, 1024] inb : Rect S1x1024x1024).emb x) 2 = x 2 := by apply Fin.ext; simp
  have ex : x = ix3 0 (x 1) (x 2) := by
    funext i
    fin_cases i
    · exact Subsingleton.elim (α := Fin 1) _ _
    · rfl
    · rfl
  unfold Rs
  rw [e2]
  refine congrArg₂ _ rfl (congrArg _ ?_)
  refine (congrArg (MixA H T O) ex).trans (mixA_at H T O (x 1) (x 2) _ ?_)
  simp

/-- The residual rows of the second half. -/
theorem resB_at (o o' : Nat) (ho : o = 512 + o') (inb : ∀ i, (![0, o, 0] : Fin 3 → Nat) i + (![1, 32, 1024] : Fin 3 → Nat) i ≤ S1x1024x1024.size i)
    (inb' : ∀ i, (![o', 0] : Fin 2 → Nat) i + (![32, 1024] : Fin 2 → Nat) i ≤ S512x1024.size i) (x : S1x32x1024.Idx) :
    k0_pay12 (View.ld (Val := Elt Ideal) (e' := .f32) (MixB H T O) (Rect.unit ![o', 0] ![32, 1024] inb')) a
        (View.ld (Val := Elt Ideal) (e' := .f32) X (Rect.unit ![0, o, 0] ![1, 32, 1024] inb)) x
      = Rs X H T a O ((Rect.unit ![0, o, 0] ![1, 32, 1024] inb : Rect S1x1024x1024).emb x) := by
  refine (resB_apply _ _ _ _).trans ?_
  have e2 : ((Rect.unit ![0, o, 0] ![1, 32, 1024] inb : Rect S1x1024x1024).emb x) 2 = x 2 := by apply Fin.ext; simp
  have ex : ix3 0 (x 1) (x 2) = x := by
    funext i
    fin_cases i
    · exact Subsingleton.elim (α := Fin 1) _ _
    · rfl
    · rfl
  have hr : o' + (x 1).val < 512 := by
    have h1 : o' + 32 ≤ 512 := by simpa using inb' 0
    have h2 : (x 1).val < 32 := (x 1).isLt
    omega
  have em : View.ld (Val := Elt Ideal) (e' := .f32) (MixB H T O) (Rect.unit ![o', 0] ![32, 1024] inb') (ix2 (x 1) (x 2))
      = MixB H T O (ix2 ⟨o' + (x 1).val, hr⟩ (x 2)) := by
    refine congrArg (MixB H T O) (funext fun i => ?_)
    fin_cases i <;> apply Fin.ext <;> simp [ix2]
  unfold Rs
  rw [e2]
  refine congrArg₂ _ (congrArg (View.ld (Val := Elt Ideal) (e' := .f32) X (Rect.unit ![0, o, 0] ![1, 32, 1024] inb)) ex) (congrArg _ ?_)
  refine em.trans (mixB_at H T O _ (x 2) _ ?_)
  simp
  omega

theorem prepB_at (o o' : Nat) (ho : o = 512 + o') (inb : ∀ i, (![0, o, 0] : Fin 3 → Nat) i + (![1, 32, 1024] : Fin 3 → Nat) i ≤ S1x1024x1024.size i)
    (inb' : ∀ i, (![o', 0] : Fin 2 → Nat) i + (![32, 1024] : Fin 2 → Nat) i ≤ S512x1024.size i)
    (inb'' : ∀ i, (![1, o', 0] : Fin 3 → Nat) i + (![1, 32, 1024] : Fin 3 → Nat) i ≤ S2x512x1024.size i) (x : S1x32x1024.Idx) :
    k0_pay13 k0_pay9 (k0_pay10 a) (k0_pay11 a) (k0_pay12 (View.ld (Val := Elt Ideal) (e' := .f32) (MixB H T O) (Rect.unit ![o', 0] ![32, 1024] inb')) a
        (View.ld (Val := Elt Ideal) (e' := .f32) X (Rect.unit ![0, o, 0] ![1, 32, 1024] inb))) g x
      = Hb a g (Rs X H T a O) ((Rect.unit ![1, o', 0] ![1, 32, 1024] inb'' : Rect S2x512x1024).emb x) := by
  refine (prepB_apply _ _ _ _).trans ?_
  have hz := (funext fun k => resB_at X H T a O o o' ho inb inb' (ix3 0 (x 1) k)).trans
    (row_ld (Rs X H T a O) o 32 inb (x 1) (512 + (o' + (x 1).val)) (by omega))
  rw [hz]
  have h0 : (x 0).val = 0 := by have h : (x 0).val < 1 := (x 0).isLt; omega
  unfold Hb
  congr 1
  · congr 1
    simp [h0]
  · apply Fin.ext
    simp

theorem prepA_at (inb : ∀ i, (![0, 0, 0] : Fin 3 → Nat) i + (![1, 512, 1024] : Fin 3 → Nat) i ≤ S2x512x1024.size i)
    (inb' : ∀ i, (![0, 0, 0] : Fin 3 → Nat) i + (![1, 512, 1024] : Fin 3 → Nat) i ≤ S1x1024x1024.size i) (x : S1x512x1024.Idx) :
    k0_pay6 (MixA H T O) a (k0_pay4 a) (View.ld (Val := Elt Ideal) (e' := .f32) X (Rect.unit ![0, 0, 0] ![1, 512, 1024] inb')) g x
      = Hb a g (Rs X H T a O) ((Rect.unit ![0, 0, 0] ![1, 512, 1024] inb : Rect S2x512x1024).emb x) := by
  refine (prepA_apply _ _ _ _ _).trans ?_
  have hz := (funext fun k => resA_at X H T a O inb' (ix3 0 (x 1) k)).trans
    (row_ld (Rs X H T a O) 0 512 inb' (x 1) (x 1).val (by omega))
  rw [hz]
  have h0 : (x 0).val = 0 := by have h : (x 0).val < 1 := (x 0).isLt; omega
  unfold Hb
  congr 1
  · congr 1
    simp [h0]
  · apply Fin.ext
    simp

theorem ldW (o : Nat) (inb : ∀ i, (![0, o] : Fin 2 → Nat) i + (![1024, 256] : Fin 2 → Nat) i ≤ S1024x5632.size i) (k : Fin 1024) (f : Fin 256)
    (q : Fin 5632) (hq : q.val = o + f.val) :
    View.ld (Val := Elt Ideal) (e' := .bf16) W (Rect.unit ![0, o] ![1024, 256] inb) (ix2 k f) = W (ix2 k q) := by
  refine congrArg W (funext fun i => ?_)
  fin_cases i <;> apply Fin.ext <;> simp [ix2, hq]

variable (Z : Vec Ideal S1x1024x1024 .f32)

/-- A chunk of hidden columns, stored at slot `s`, column `o`. -/
theorem up_at (s : Nat) (hs : s < 2) (o o' : Nat) (h : Vec Ideal S1x512x1024 .bf16) (hh : ∀ r k, h (ix3 0 r k) = Hb a g Z (ix3 ⟨s, hs⟩ r k))
    (inb : ∀ i, (![s, 0, o] : Fin 3 → Nat) i + (![1, 512, 256] : Fin 3 → Nat) i ≤ S2x512x2816.size i)
    (inb1 : ∀ i, (![0, o] : Fin 2 → Nat) i + (![1024, 256] : Fin 2 → Nat) i ≤ S1024x5632.size i)
    (inb2 : ∀ i, (![0, o'] : Fin 2 → Nat) i + (![1024, 256] : Fin 2 → Nat) i ≤ S1024x5632.size i)
    (ho : o' = 2816 + o) (x : S1x512x256.Idx) :
    k0_pay8 (k0_pay7 h (View.ld (Val := Elt Ideal) (e' := .bf16) W (Rect.unit ![0, o] ![1024, 256] inb1))) h
        (View.ld (Val := Elt Ideal) (e' := .bf16) W (Rect.unit ![0, o'] ![1024, 256] inb2)) x
      = Act a g W Z ((Rect.unit ![s, 0, o] ![1, 512, 256] inb : Rect S2x512x2816).emb x) := by
  refine (up_apply _ _ _ _).trans ?_
  have h0 : (x 0).val = 0 := by have h : (x 0).val < 1 := (x 0).isLt; omega
  have e0 : ((Rect.unit ![s, 0, o] ![1, 512, 256] inb : Rect S2x512x2816).emb x) 0 = (⟨s, hs⟩ : Fin 2) := by
    apply Fin.ext; simp [h0]
  have e1 : ((Rect.unit ![s, 0, o] ![1, 512, 256] inb : Rect S2x512x2816).emb x) 1 = x 1 := by
    apply Fin.ext; simp
  have e2 : (((Rect.unit ![s, 0, o] ![1, 512, 256] inb : Rect S2x512x2816).emb x) 2).val = o + (x 2).val := by
    simp
  unfold Act hid
  rw [e0, e1]
  congr 1 <;> refine Finset.sum_congr rfl fun k _ => ?_
  · exact congrArg₂ _ (hh (x 1) k) (ldW W o inb1 k (x 2) _ e2)
  · exact congrArg₂ _ (hh (x 1) k) (ldW W o' inb2 k (x 2) _ (by simp only [e2]; omega))

/-- The rows a slot's finishing step writes. -/
theorem down_at (s : Nat) (hs : s < 2) (o : Nat) (ho : o = 512 * s) (h : Vec Ideal S1x512x2816 .bf16) (hh : ∀ r f, h (ix3 0 r f) = Act a g W Z (ix3 ⟨s, hs⟩ r f))
    (inb : ∀ i, (![0, o, 0] : Fin 3 → Nat) i + (![1, 512, 1024] : Fin 3 → Nat) i ≤ S1x1024x1024.size i)
    (z : Vec Ideal S1x512x1024 .f32) (hz : z = View.ld (Val := Elt Ideal) (e' := .f32) Z (Rect.unit ![0, o, 0] ![1, 512, 1024] inb)) (x : S1x512x1024.Idx) :
    k0_pay1 (k0_pay136 (k0_pay135 h D) z a) (k0_pay137 (k0_pay135 h D) z a) k0_pay138 gf x
      = Blk a g W D gf Z ((Rect.unit ![0, o, 0] ![1, 512, 1024] inb : Rect S1x1024x1024).emb x) := by
  refine (last_apply _ _ _ _ _ _).trans ?_
  subst hz
  have e1 : (((Rect.unit ![0, o, 0] ![1, 512, 1024] inb : Rect S1x1024x1024).emb x) 1).val = 512 * s + (x 1).val := by
    simp [ho]
  have e2 : ((Rect.unit ![0, o, 0] ![1, 512, 1024] inb : Rect S1x1024x1024).emb x) 2 = x 2 := by
    apply Fin.ext; simp
  have hx := row_ld Z o 512 inb (x 1) (512 * s + (x 1).val) (by omega)
  unfold Blk
  rw [e1, e2]
  refine congrArg (fun y => fin y (fun e => gf (ix2 0 e)) (x 2)) (funext fun e => ?_)
  refine (down_apply _ _ _ _ _).trans ?_
  unfold half
  refine congrArg₂ _ (congrFun hx e) (congrArg _ (Finset.sum_congr rfl fun f _ => ?_))
  exact congrArg (· * D (ix2 f e)) (hh (x 1) f)

end Cert.Ffn2Block

end
-- ==== Proof.Ffn2Block.lean ====
/- What one grid point of the last call writes: a block of rows. -/
module

public import proofs.«01_k».proof.Proof.Gen.Ffn2Ideal.Value
public import proofs.«01_k».proof.Proof.Ffn2Eq
public import proofs.«01_k».proof.Proof.Ffn2Pay

@[expose] public section

set_option maxRecDepth 16384

noncomputable section

namespace Cert.Ffn2Block

open Cert.Ffn2Ideal Cert.Ffn2Ideal.Gen Cert.FfnMath Idealize.ShloMosaic Idealize.ShloMosaic.TcCoe Idealize.SL.Sem
open Idealize.ShloMosaic.Pipeline (Dat)

variable (m : (ℓ : Loc nD τ sig) → Buf (Elt Ideal) ℓ)

/-- The block after the mixer, and the arguments of the lemmas of `Ffn2Pay`, at a grid point. -/
abbrev Zt (c : Dev nD) (t : Fin cfg0.N) : Vec Ideal S1x1024x1024 .f32 :=
  Rs (iblk m c 0 t) (iblk m c 1 t) (iblk m c 2 t) (iblk m c 3 t) (iblk m c 5 t)
abbrev Ht (c : Dev nD) (t : Fin cfg0.N) : Vec Ideal S2x512x1024 .bf16 := Hb (iblk m c 3 t) (iblk m c 4 t) (Zt m c t)
abbrev At (c : Dev nD) (t : Fin cfg0.N) : Vec Ideal S2x512x2816 .bf16 := Act (iblk m c 3 t) (iblk m c 4 t) (iblk m c 6 t) (Zt m c t)

set_option pp.maxSteps 300 in
set_option maxHeartbeats 4000000 in
/-- What a grid point writes is the block of the half step. -/
theorem outs_eq (c : Dev nD) (t : Fin cfg0.N) :
    outsAt0 m c t = Blk (iblk m c 3 t) (iblk m c 4 t) (iblk m c 6 t) (iblk m c 7 t) (iblk m c 8 t) (Zt m c t) := by
  unfold outsAt0
  frame_open
  simp (disch := decide) only [↓ View.readCov_skip, ↓ View.readCov_cons_toLoadRect, ↓ View.readCov_fill,
    View.read_writes_junk_eq_canon, View.readAt_eq_ld, Memref.IsWhole.read_unread, View.ld_unit_lit']
  simp only [res_eq1, res_eq2, res_eq3, res_eq4, res_eq5, res_eq6, res_eq7, res_eq8, res_eq9, res_eq10, res_eq11, res_eq12, res_eq13, res_eq14,
    res_eq15, prep_eq2, prep_eq1, prep_eq3, prep_eq4, prep_eq5, prep_eq6, prep_eq7, prep_eq8, prep_eq9, prep_eq10, prep_eq11,
    prep_eq12, prep_eq13, prep_eq14, prep_eq15, up_eq1, up_eq2, up_eq3, up_eq4, up_eq5, up_eq6, up_eq7, up_eq8, up_eq9, up_eq10,
    up_eq11, up_eq12, up_eq13, up_eq14, up_eq15, up_eq16, up_eq17, up_eq18, up_eq19, up_eq20, up_eq21]
  rw [readCov_of_chain (View.whole cc0_scratch0) (Ht m c t) _ hR 1 32 15 ?h ?c]
  case h =>
    iterate 16 refine pieces_cons (fun x => prepB_at (iblk m c 0 t) (iblk m c 1 t) (iblk m c 2 t) (iblk m c 3 t) (iblk m c 4 t) (iblk m c 5 t) _ _ rfl _ _ _ x) ?_
    exact pieces_cons (fun x => prepA_at (iblk m c 0 t) (iblk m c 1 t) (iblk m c 2 t) (iblk m c 3 t) (iblk m c 4 t) (iblk m c 5 t) inb_S2x512x1024_S1x512x1024_0_0_0 _ x) trivial
  case c => sl_kernel_rfl
  simp only [last_eq]
  rw [readCov_of_chain _ (Zt m c t) _ xR 1 32 15 ?h ?c]
  case h =>
    iterate 16 refine pieces_cons (fun x => resB_at (iblk m c 0 t) (iblk m c 1 t) (iblk m c 2 t) (iblk m c 3 t) (iblk m c 5 t) _ _ rfl _ _ x) ?_
    exact pieces_cons (fun x => resA_at (iblk m c 0 t) (iblk m c 1 t) (iblk m c 2 t) (iblk m c 3 t) (iblk m c 5 t) _ x) trivial
  case c => sl_kernel_rfl
  have hz : k0_pay5 (MixA (iblk m c 1 t) (iblk m c 2 t) (iblk m c 5 t)) (k0_pay4 (iblk m c 3 t))
      (View.ld (Val := Elt Ideal) (e' := .f32) (iblk m c 0 t) (Rect.unit ![0, 0, 0] ![1, 512, 1024] inb_S1x1024x1024_S1x512x1024_0_0_0))
      = View.ld (Val := Elt Ideal) (e' := .f32) (Zt m c t) (Rect.unit ![0, 0, 0] ![1, 512, 1024] inb_S1x1024x1024_S1x512x1024_0_0_0) :=
    funext fun x => resA_at (iblk m c 0 t) (iblk m c 1 t) (iblk m c 2 t) (iblk m c 3 t) (iblk m c 5 t) _ x
  have h0 : ∀ r k, k0_pay6 (MixA (iblk m c 1 t) (iblk m c 2 t) (iblk m c 5 t)) (iblk m c 3 t) (k0_pay4 (iblk m c 3 t))
      (View.ld (Val := Elt Ideal) (e' := .f32) (iblk m c 0 t) (Rect.unit ![0, 0, 0] ![1, 512, 1024] inb_S1x1024x1024_S1x512x1024_0_0_0)) (iblk m c 4 t) (ix3 0 r k)
      = Ht m c t (ix3 ⟨0, by decide⟩ r k) := fun r k => by
    refine (prepA_at (iblk m c 0 t) (iblk m c 1 t) (iblk m c 2 t) (iblk m c 3 t) (iblk m c 4 t) (iblk m c 5 t) inb_S2x512x1024_S1x512x1024_0_0_0 _ _).trans
      (congrArg (Ht m c t) (funext fun i => ?_))
    fin_cases i <;> apply Fin.ext <;> simp [ix3]
  have h1 : ∀ r k, View.ld (Val := Elt Ideal) (e' := .bf16) (Ht m c t) hR (ix3 0 r k) = Ht m c t (ix3 ⟨1, by decide⟩ r k) := fun r k => by
    refine congrArg (Ht m c t) (funext fun i => ?_)
    fin_cases i <;> apply Fin.ext <;> simp [ix3]
  have hA : ∀ (q : Nat) (hq : q < 2) (inb) r f, View.ld (Val := Elt Ideal) (e' := .bf16) (At m c t)
      (Rect.unit ![q, 0, 0] ![1, 512, 2816] inb) (ix3 0 r f) = At m c t (ix3 ⟨q, hq⟩ r f) := fun q hq inb r f => by
    refine congrArg (At m c t) (funext fun i => ?_)
    fin_cases i <;> apply Fin.ext <;> simp [ix3]
  rw [readCov_of_chain (View.whole cc0_scratch1) (At m c t) _ aR1 2 256 10 ?h ?c]
  case h =>
    iterate 11 refine pieces_cons (fun x => up_at (iblk m c 3 t) (iblk m c 4 t) (iblk m c 6 t) (Zt m c t) 1 (by decide) _ _ _ h1 _ _ _ rfl x) ?_
    iterate 11 refine pieces_cons (fun x => up_at (iblk m c 3 t) (iblk m c 4 t) (iblk m c 6 t) (Zt m c t) 0 (by decide) _ _ _ h0 _ _ _ rfl x) ?_
    trivial
  case c => sl_kernel_rfl
  rw [readCov_of_chain (View.whole cc0_scratch1) (At m c t) _ aR0 2 256 10 ?h ?c]
  case h =>
    iterate 11 refine pieces_cons (fun x => up_at (iblk m c 3 t) (iblk m c 4 t) (iblk m c 6 t) (Zt m c t) 0 (by decide) _ _ _ h0 _ _ _ rfl x) ?_
    trivial
  case c => sl_kernel_rfl
  refine canon_two _ _ _ _ (fun x => ?_) (fun x => ?_) ?_
  · exact down_at (iblk m c 3 t) (iblk m c 4 t) (iblk m c 6 t) (iblk m c 7 t) (iblk m c 8 t) (Zt m c t) 1 (by decide) _ rfl _ (hA 1 (by decide) _) _ _ rfl x
  · exact down_at (iblk m c 3 t) (iblk m c 4 t) (iblk m c 6 t) (iblk m c 7 t) (iblk m c 8 t) (Zt m c t) 0 (by decide) _ rfl _ (hA 0 (by decide) _) _ _ hz x
  · exact View.cover_of_tiledL _ ![1, 512, 1024] (by sl_kernel_rfl)

end Cert.Ffn2Block

end
-- ==== Proof.Ffn2.lean ====
/- The last call returns the mixer's residual step, the second half step and the final norm. -/
module

public import proofs.«01_k».proof.Proof.Ffn2Block

@[expose] public section

set_option maxRecDepth 16384

noncomputable section

namespace Cert.Ffn2Value

open Cert.Ffn2Ideal Cert.Ffn2Ideal.Gen Cert.FfnMath Cert.Ffn2Block Idealize.ShloMosaic Idealize.ShloMosaic.TcCoe Idealize.SL.Sem
open Idealize.ShloMosaic.Pipeline (Dat)

variable (m : (ℓ : Loc nD τ sig) → Buf (Elt Ideal) ℓ)

/-- The index maps at every grid point. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, 0, 0] ∧ win0_4.index t = ![0, 0]
    ∧ win0_5.index t = ![0, 0] ∧ win0_6.index t = ![0, 0] ∧ win0_7.index t = ![0, 0] ∧ win0_8.index t = ![0, 0]
    ∧ win0_9.index t = ![t.val / 16, t.val % 16, 0] ∧ t.val / 16 < 2 :=
  (by decide +kernel : ∀ t : Fin grid0.N, _)

theorem blk0 (c : Dev nD) (t : Fin cfg0.N) (r : Fin 1024) (k : Fin 1024) (b : Fin 2) (q : Fin 16384) (hb : b.val = t.val / 16)
    (hq : q.val = t.val % 16 * 1024 + r.val) :
    (iblk m c 0 t : Vec Ideal S1x1024x1024 .f32) (ix3 0 r k) = (m ((c : Thread nD τ).loc main_arg0) : Vec Ideal S2x16384x1024 .f32) (ix3 b q k) := by
  blk_ext [iblk, V, idx t]

theorem blk1 (c : Dev nD) (t : Fin cfg0.N) (r : Fin 1024) (k : Fin 512) (b : Fin 2) (q : Fin 16384) (hb : b.val = t.val / 16)
    (hq : q.val = t.val % 16 * 1024 + r.val) :
    (iblk m c 1 t : Vec Ideal S1x1024x512 .bf16) (ix3 0 r k) = (m ((c : Thread nD τ).loc main_arg6) : Vec Ideal S2x16384x512 .bf16) (ix3 b q k) := by
  blk_ext [iblk, V, idx t]

theorem blk2 (c : Dev nD) (t : Fin cfg0.N) (r : Fin 1024) (k : Fin 512) (b : Fin 2) (q : Fin 16384) (hb : b.val = t.val / 16)
    (hq : q.val = t.val % 16 * 1024 + r.val) :
    (iblk m c 2 t : Vec Ideal S1x1024x512 .bf16) (ix3 0 r k) = (m ((c : Thread nD τ).loc main_arg7) : Vec Ideal S2x16384x512 .bf16) (ix3 b q k) := by
  blk_ext [iblk, V, idx t]

theorem blk3 (c : Dev nD) (t : Fin cfg0.N) (s : Fin 9) (k : Fin 1024) (b : Fin 2) (hb : b.val = t.val / 16) :
    (iblk m c 3 t : Vec Ideal S1x9x1024 .f32) (ix3 0 s k) = (m ((c : Thread nD τ).loc main_arg1) : Vec Ideal S2x9x1024 .f32) (ix3 b s k) := by
  blk_ext [iblk, V, idx t]

theorem blk4 (c : Dev nD) (t : Fin cfg0.N) (k : Fin 1024) :
    (iblk m c 4 t : Vec Ideal S1x1024 .f32) (ix2 0 k) = (m ((c : Thread nD τ).loc main_arg2) : Vec Ideal S1024 .f32) (ix1 k) := by
  blk_point [iblk, V, idx t]

theorem blk5 (c : Dev nD) (t : Fin cfg0.N) (k : Fin 1024) (e : Fin 1024) :
    (iblk m c 5 t : Vec Ideal S1024x1024 .bf16) (ix2 k e) = (m ((c : Thread nD τ).loc main_arg8) : Vec Ideal S1024x1024 .f32) (ix2 k e) := by
  blk_point [iblk, V, idx t]

theorem blk6 (c : Dev nD) (t : Fin cfg0.N) (k : Fin 1024) (f : Fin 5632) :
    (iblk m c 6 t : Vec Ideal S1024x5632 .bf16) (ix2 k f) = (m ((c : Thread nD τ).loc main_arg3) : Vec Ideal S1024x5632 .f32) (ix2 k f) := by
  blk_point [iblk, V, idx t]

theorem blk7 (c : Dev nD) (t : Fin cfg0.N) (f : Fin 2816) (e : Fin 1024) :
    (iblk m c 7 t : Vec Ideal S2816x1024 .bf16) (ix2 f e) = (m ((c : Thread nD τ).loc main_arg4) : Vec Ideal S2816x1024 .f32) (ix2 f e) := by
  blk_point [iblk, V, idx t]

theorem blk8 (c : Dev nD) (t : Fin cfg0.N) (k : Fin 1024) :
    (iblk m c 8 t : Vec Ideal S1x1024 .f32) (ix2 0 k) = (m ((c : Thread nD τ).loc main_arg5) : Vec Ideal S1024 .f32) (ix1 k) := by
  blk_point [iblk, V, idx t]

/-- Row `q` of batch `b` after the mixer's residual step, from the arguments. -/
def rowRes (c : Dev nD) (b : Fin 2) (q : Fin 16384) (e : Fin 1024) : EReal :=
  resid (fun k => (m ((c : Thread nD τ).loc main_arg0) : Vec Ideal S2x16384x1024 .f32) (ix3 b q k))
    (fun k => (m ((c : Thread nD τ).loc main_arg1) : Vec Ideal S2x9x1024 .f32) (ix3 b 5 k))
    (fun k => (m ((c : Thread nD τ).loc main_arg6) : Vec Ideal S2x16384x512 .bf16) (ix3 b q k))
    (fun k => (m ((c : Thread nD τ).loc main_arg7) : Vec Ideal S2x16384x512 .bf16) (ix3 b q k))
    (fun k e => (m ((c : Thread nD τ).loc main_arg8) : Vec Ideal S1024x1024 .f32) (ix2 k e)) e

/-- The result's row `q` of batch `b`, from the arguments. -/
def rowOut (c : Dev nD) (b : Fin 2) (q : Fin 16384) (e : Fin 1024) : EReal :=
  fin (half (rowRes m c b q)
    (fun k => (m ((c : Thread nD τ).loc main_arg1) : Vec Ideal S2x9x1024 .f32) (ix3 b 6 k))
    (fun k => (m ((c : Thread nD τ).loc main_arg1) : Vec Ideal S2x9x1024 .f32) (ix3 b 7 k))
    (fun k => (m ((c : Thread nD τ).loc main_arg1) : Vec Ideal S2x9x1024 .f32) (ix3 b 8 k))
    (fun k => (m ((c : Thread nD τ).loc main_arg2) : Vec Ideal S1024 .f32) (ix1 k))
    (fun k f => (m ((c : Thread nD τ).loc main_arg3) : Vec Ideal S1024x5632 .f32) (ix2 k f))
    (fun f e => (m ((c : Thread nD τ).loc main_arg4) : Vec Ideal S2816x1024 .f32) (ix2 f e)))
    (fun k => (m ((c : Thread nD τ).loc main_arg5) : Vec Ideal S1024 .f32) (ix1 k)) e

/-- A row of a block is the result's row it sits at. -/
theorem block_row (c : Dev nD) (t : Fin cfg0.N) (y : S1x1024x1024.Idx) (b : Fin 2) (q : Fin 16384) (hb : b.val = t.val / 16)
    (hq : q.val = t.val % 16 * 1024 + (y 1).val) :
    Blk (iblk m c 3 t) (iblk m c 4 t) (iblk m c 6 t) (iblk m c 7 t) (iblk m c 8 t) (Zt m c t) y = rowOut m c b q (y 2) := by
  have hr : row (Zt m c t) (y 1).val = rowRes m c b q := by
    funext e
    unfold row
    rw [dif_pos (show (y 1).val < 1024 from (y 1).isLt)]
    unfold rowRes resid
    refine congrArg₂ _ (blk0 m c t _ _ _ _ hb hq) (congrArg₂ _ (blk3 m c t _ _ b hb) ?_)
    unfold mix
    refine congrArg₂ _ (Finset.sum_congr rfl fun k _ => ?_) (Finset.sum_congr rfl fun k _ => ?_)
    · exact congrArg₂ _ (blk1 m c t _ _ _ _ hb hq) (blk5 m c t _ _)
    · exact congrArg₂ _ (blk2 m c t _ _ _ _ hb hq) (blk5 m c t _ _)
  unfold Blk rowOut
  simp only [blk3 m c t _ _ b hb, blk4, blk6, blk7, blk8, hr]

/-- The array the call returns. -/
theorem final (c : Dev nD) (R : Vec Ideal S2x16384x1024 .f32) (hR : ∀ b r e, R (ix3 b r e) = rowOut m c b r e) :
    (dats m 0 c).arrAt 9 cfg0.N = R := by
  refine (dats m 0 c).arrAt_eq_of_covers 9 R (by decide +kernel) fun t _ y => ?_
  blk_simp
  rw [after0_9, outs_eq]
  have hb : t.val / 16 < 2 := (idx t).2.2.2.2.2.2.2.2.2.2
  have hq : t.val % 16 * 1024 + (y 1).val < 16384 := by
    have h : (y 1).val < 1024 := (y 1).isLt
    omega
  have e : ((cfg0.win 9).blk t).view.emb y = (ix3 ⟨t.val / 16, hb⟩ ⟨t.val % 16 * 1024 + (y 1).val, hq⟩ (y 2) : S2x16384x1024.Idx) := by
    blk_ext [idx t]
  rw [e]
  exact (block_row m c t y _ _ rfl rfl).trans (hR _ _ _).symm

end Cert.Ffn2Value

end
-- ==== Proof.Ffn2Ref.lean ====
/- The plain last step, read at an index: the mixer's residual step, the half step, the final norm. -/
module

public import proofs.«01_k».proof.Proof.Gen.RefFfn2Ideal.Read
public import proofs.«01_k».proof.Proof.FfnMath

@[expose] public section

set_option maxRecDepth 16384

noncomputable section

namespace Cert.Ffn2Ref

open Cert.RefFfn2Ideal Cert.RefFfn2Ideal.Gen Cert.RefFfn2Ideal.Read Cert.FfnMath Idealize.ShloMosaic Idealize.ShloMosaic.TcCoe

variable (x0 : FVec Ideal S2x16384x1024 .f32) (x1 : FVec Ideal S2x9x1024 .f32) (x2 : FVec Ideal S1024 .f32)
  (x3 : FVec Ideal S1024x5632 .f32) (x4 : FVec Ideal S2816x1024 .f32) (x5 : FVec Ideal S1024 .f32)
  (x6 x7 : FVec Ideal S2x16384x512 .bf16) (x8 : FVec Ideal S1024x1024 .f32)

theorem catL (b : Fin 2) (r : Fin 16384) (k : Fin 512) (q : Fin 1024) (hq : q.val = k.val) :
    val_main_v6 (F := Ideal) x6 x7 (ix3 b r q) = x6 (ix3 b r k) := by
  unfold val_main_v6 val_main_v5 val_main_v4
  pointwise
  rw [dif_pos (show q.val < 512 by omega)]
  simp [hq]

theorem catR (b : Fin 2) (r : Fin 16384) (k : Fin 512) (q : Fin 1024) (hq : q.val = 512 + k.val) :
    val_main_v6 (F := Ideal) x6 x7 (ix3 b r q) = x7 (ix3 b r k) := by
  unfold val_main_v6 val_main_v5 val_main_v4
  pointwise
  rw [dif_neg (show ¬ q.val < 512 by omega)]
  simp [hq]

theorem mix_at (b : Fin 2) (r : Fin 16384) (e : Fin 1024) :
    val_main_v7 (F := Ideal) x6 x7 x8 (ix3 b r e)
      = mix (fun k => x6 (ix3 b r k)) (fun k => x7 (ix3 b r k)) (fun k e => x8 (ix2 k e)) e := by
  unfold val_main_v7
  have hl := catL x6 x7 b r
  have hr := catR x6 x7 b r
  generalize val_main_v6 (F := Ideal) x6 x7 = z at *
  pointwise
  refine (Fin.sum_univ_add (a := 512) (b := 512) (fun k : Fin (512 + 512) => z (ix3 b r k) * x8 (ix2 k e))).trans ?_
  unfold mix
  refine congrArg₂ _ (Finset.sum_congr rfl fun k _ => ?_) (Finset.sum_congr rfl fun k _ => ?_)
  · exact congrArg₂ _ (hl k _ rfl) rfl
  · exact congrArg₂ _ (hr k _ rfl) rfl

/-- The row after the mixer. -/
theorem res_at (b : Fin 2) (r : Fin 16384) (e : Fin 1024) :
    val_main_v10 (F := Ideal) x0 x1 x6 x7 x8 (ix3 b r e)
      = resid (fun k => x0 (ix3 b r k)) (fun k => x1 (ix3 b 5 k)) (fun k => x6 (ix3 b r k)) (fun k => x7 (ix3 b r k)) (fun k e => x8 (ix2 k e)) e := by
  unfold val_main_v10 val_main_v9 val_main_v8 val_main_v0
  have h := mix_at x6 x7 x8 b r
  generalize val_main_v7 (F := Ideal) x6 x7 x8 = z at *
  pointwise
  unfold resid
  simp only [h]

/-- The normed, scaled and shifted row. -/
theorem nrm_at (b : Fin 2) (r : Fin 16384) (k : Fin 1024) :
    val_main_v29 (F := Ideal) x0 x1 x2 x6 x7 x8 (ix3 b r k)
      = nrm (fun k => val_main_v10 (F := Ideal) x0 x1 x6 x7 x8 (ix3 b r k)) (fun k => x1 (ix3 b 6 k)) (fun k => x1 (ix3 b 7 k)) (fun k => x2 (ix1 k)) k := by
  unfold val_main_v29 val_main_v28 val_main_v27 val_main_v26 val_main_v25 val_main_v24 val_main_v23 val_main_v22 val_main_v21 val_main_v20
    val_main_v19 val_main_v18 val_main_v17 val_main_v16 val_main_v15 val_main_v14 val_main_v13 val_main_v12 val_main_v11 val_main_v1 val_main_v2
    val_main_cst val_main_cst_0 val_main_cst_1 val_main_cst_2
  generalize val_main_v10 (F := Ideal) x0 x1 x6 x7 x8 = z
  pointwise
  unfold nrm irms
  rw [mul_assoc (z (ix3 b r k) * _)]

/-- The hidden row. -/
theorem hid_at (b : Fin 2) (r : Fin 16384) (f : Fin 2816) :
    val_main_v36 (F := Ideal) x0 x1 x2 x3 x6 x7 x8 (ix3 b r f)
      = hid (fun k => val_main_v29 (F := Ideal) x0 x1 x2 x6 x7 x8 (ix3 b r k)) (fun k f => x3 (ix2 k f)) f := by
  unfold val_main_v36 val_main_v35 val_main_call0_v5 val_main_call0_v4 val_main_call0_v3 val_main_call0_v2 val_main_call0_v1 val_main_call0_v0
    val_main_call0_cst val_main_call0_cst_0 val_main_v32 val_main_v31 val_main_v30
  generalize val_main_v29 (F := Ideal) x0 x1 x2 x6 x7 x8 = z
  pointwise
  unfold hid glu
  rw [zero_sub]

/-- The half step. -/
theorem half_at (b : Fin 2) (r : Fin 16384) (e : Fin 1024) :
    val_main_v40 (F := Ideal) x0 x1 x2 x3 x4 x6 x7 x8 (ix3 b r e)
      = half (fun k => val_main_v10 (F := Ideal) x0 x1 x6 x7 x8 (ix3 b r k)) (fun k => x1 (ix3 b 6 k)) (fun k => x1 (ix3 b 7 k)) (fun k => x1 (ix3 b 8 k))
          (fun k => x2 (ix1 k)) (fun k f => x3 (ix2 k f)) (fun f e => x4 (ix2 f e)) e := by
  unfold val_main_v40 val_main_v39 val_main_v38 val_main_v37 val_main_v34 val_main_v33 val_main_cst_3 val_main_v3
  have h := hid_at x0 x1 x2 x3 x6 x7 x8 b r
  simp only [nrm_at] at h
  generalize val_main_v36 (F := Ideal) x0 x1 x2 x3 x6 x7 x8 = z at *
  generalize val_main_v10 (F := Ideal) x0 x1 x6 x7 x8 = y at *
  pointwise
  unfold half
  simp only [h]

/-- The result. -/
theorem fin_at (b : Fin 2) (r : Fin 16384) (e : Fin 1024) :
    val_main_v53 (F := Ideal) x0 x1 x2 x3 x4 x5 x6 x7 x8 (ix3 b r e)
      = fin (half (resid (fun k => x0 (ix3 b r k)) (fun k => x1 (ix3 b 5 k)) (fun k => x6 (ix3 b r k)) (fun k => x7 (ix3 b r k)) (fun k e => x8 (ix2 k e)))
          (fun k => x1 (ix3 b 6 k)) (fun k => x1 (ix3 b 7 k)) (fun k => x1 (ix3 b 8 k))
          (fun k => x2 (ix1 k)) (fun k f => x3 (ix2 k f)) (fun f e => x4 (ix2 f e))) (fun k => x5 (ix1 k)) e := by
  unfold val_main_v53 val_main_v52 val_main_v51 val_main_v50 val_main_v49 val_main_v48 val_main_v47 val_main_v46 val_main_v45 val_main_v44
    val_main_v43 val_main_v42 val_main_v41 val_main_cst_4 val_main_cst_5 val_main_cst_6
  have h := half_at x0 x1 x2 x3 x4 x6 x7 x8 b r
  simp only [res_at] at h
  generalize val_main_v40 (F := Ideal) x0 x1 x2 x3 x4 x6 x7 x8 = z at *
  pointwise
  unfold fin irms
  simp only [h]

end Cert.Ffn2Ref

end
-- ==== Proof.Claims.lean ====
/- The claims of the certificate, each from the modules that prove it. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Ffn1.Frame
public import proofs.«01_k».proof.Proof.Gen.Ffn2.Frame
public import proofs.«01_k».proof.Proof.Gen.Ffn2Ideal.Frame
public import proofs.«01_k».proof.Proof.Gen.RefFfn2Ideal.Run
public import proofs.«01_k».proof.Proof.Gen.KernelIdeal.Value
public import proofs.«01_k».proof.Proof.Gen.ReferenceIdeal.Read
public import proofs.«01_k».proof.Proof.Ml
public import proofs.«01_k».proof.Proof.MlRef
public import proofs.«01_k».proof.Proof.Ffn1
public import proofs.«01_k».proof.Proof.Ffn1Ref
public import proofs.«01_k».proof.Proof.Ffn2
public import proofs.«01_k».proof.Proof.Ffn2Ref

@[expose] public section

noncomputable section

namespace Cert.KClaims

open Idealize.ShloMosaic Idealize.SL.Sem

theorem frame_ref_mlstm : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run (F := Ideal) m g)

theorem frame_ref_ffn1 : Cert.quiescent_RefFfn1Ideal := fun m g _ =>
  (θ_run Cert.RefFfn1Ideal.defs _ _).mono (fun r h => ⟨fun c => (h c).2, sem_eq_zero_of_no_sems (by decide) r.2⟩)
    (Cert.RefFfn1Ideal.Value.run (F := Ideal) m g)

theorem frame_ref_ffn2 : Cert.quiescent_RefFfn2Ideal := fun m g _ =>
  (θ_run Cert.RefFfn2Ideal.defs _ _).mono (fun r h => ⟨fun c => (h c).2, sem_eq_zero_of_no_sems (by decide) r.2⟩)
    (Cert.RefFfn2Ideal.Value.run (F := Ideal) m g)

theorem preserves_mlstm : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩

theorem preserves_ffn1 : Cert.preserves_Ffn1_Ffn1Ideal := IdealRules.shift_out.by16TwiceStatement _

theorem preserves_ffn2 : Cert.preserves_Ffn2_Ffn2Ideal := IdealRules.shift_out.by16TwiceStatement _

/-- The first feed-forward call returns what the plain half step does. -/
theorem algebraic_ffn1 : Cert.algebraic_Ffn1Ideal_RefFfn1Ideal (hFfn1Ideal := Cert.Ffn1Ideal.Gen.facts) (hRefFfn1Ideal := Cert.RefFfn1Ideal.Gen.facts) := by
  intro m g m' g' _ hagree
  refine ⟨fun c => (Cert.Ffn1Ideal.Gen.dats m 0 c).arrAt 6 Cert.Ffn1Ideal.cfg0.N, Cert.Ffn1Ideal.Value.run_blocks m g, ?_⟩
  refine (θ_run _ _ _).mono (fun r h c => ⟨?_, (h c).2⟩) (Cert.RefFfn1Ideal.Value.run m' g')
  obtain ⟨h0, h1, h2, h3, h4, -⟩ := hagree c
  refine (h c).1.trans ((Cert.RefFfn1Ideal.Read.val_main_v32_eq m' c).trans ?_)
  rw [h0, h1, h2, h3, h4]
  exact (Cert.Ffn1Value.final m c _ fun b r e => Cert.Ffn1Ref.half_at _ _ _ _ _ b r e).symm

/-- The last call returns what the plain mixer's residual step, half step and final norm do. -/
theorem algebraic_ffn2 : Cert.algebraic_Ffn2Ideal_RefFfn2Ideal (hFfn2Ideal := Cert.Ffn2Ideal.Gen.facts) (hRefFfn2Ideal := Cert.RefFfn2Ideal.Gen.facts) := by
  intro m g m' g' _ hagree
  refine ⟨fun c => (Cert.Ffn2Ideal.Gen.dats m 0 c).arrAt 9 Cert.Ffn2Ideal.cfg0.N, Cert.Ffn2Ideal.Value.run_blocks m g, ?_⟩
  refine (θ_run _ _ _).mono (fun r h c => ⟨?_, (h c).2⟩) (Cert.RefFfn2Ideal.Value.run m' g')
  obtain ⟨h0, h1, h2, h3, h4, h5, h6, h7, h8⟩ := hagree c
  refine (h c).1.trans ((Cert.RefFfn2Ideal.Read.val_main_v53_eq m' c).trans ?_)
  rw [h0, h1, h2, h3, h4, h5, h6, h7, h8]
  exact (Cert.Ffn2Value.final m c _ fun b r e => Cert.Ffn2Ref.fin_at _ _ _ _ _ _ _ _ _ b r e).symm

/-! The mLSTM call's four results and the plain step's. -/

variable (m : (ℓ : Loc Cert.KernelIdeal.nD Cert.KernelIdeal.τ Cert.KernelIdeal.sig) → Buf (Elt Ideal) ℓ)

theorem mlstm_h (c : Dev Cert.KernelIdeal.nD) : (Cert.KernelIdeal.Gen.dats m 0 c).arrAt 9 Cert.KernelIdeal.cfg0.N
    = Cert.ReferenceIdeal.Read.val_main_v111 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) :=
  Cert.MlValue.final_h m c _ fun b h t d => Cert.MlRef.out_at _ _ _ _ _ _ _ _ _ b h t d

theorem mlstm_c (c : Dev Cert.KernelIdeal.nD) : (Cert.KernelIdeal.Gen.dats m 0 c).arrAt 10 Cert.KernelIdeal.cfg0.N
    = Cert.ReferenceIdeal.Read.val_main_v79 (F := Ideal)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7)) :=
  Cert.MlValue.final_c m c _ fun b h e d => Cert.MlRef.C_at _ _ _ _ _ b h e d

theorem mlstm_n (c : Dev Cert.KernelIdeal.nD) (i : Cert.KernelIdeal.S32x8x128.Idx) (hi : (i 1).val < 4) :
    (Cert.KernelIdeal.Gen.dats m 0 c).arrAt 11 Cert.KernelIdeal.cfg0.N i
    = Cert.ReferenceIdeal.Read.val_main_v100 (F := Ideal)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) i := by
  have e : i = ix3 (i 0) (i 1) (i 2) := by
    funext a
    fin_cases a <;> rfl
  rw [e]
  exact (Cert.MlValue.final_n m c (i 0) (i 1) ⟨(i 1).val, hi⟩ rfl (i 2)).trans (Cert.MlRef.N_at _ _ _ _ (i 0) ⟨(i 1).val, hi⟩ (i 1) rfl (i 2)).symm

theorem mlstm_m (c : Dev Cert.KernelIdeal.nD) (i : Cert.KernelIdeal.S32x8x128.Idx) (hi : (i 1).val < 4) :
    (Cert.KernelIdeal.Gen.dats m 0 c).arrAt 12 Cert.KernelIdeal.cfg0.N i
    = Cert.ReferenceIdeal.Read.val_main_v103 (F := Ideal)
      (m ((c.tc : Thread Cert.KernelIdeal.nD Cert.KernelIdeal.τ).loc Cert.KernelIdeal.main_arg3))
      (m ((c.tc : Thread Cert.KernelIdeal.nD Cert.KernelIdeal.τ).loc Cert.KernelIdeal.main_arg7)) i := by
  have e : i = ix3 (i 0) (i 1) (i 2) := by
    funext a
    fin_cases a <;> rfl
  rw [e]
  exact (Cert.MlValue.final_m m c (i 0) (i 1) ⟨(i 1).val, hi⟩ rfl (i 2)).trans (Cert.MlRef.M_at _ _ (i 0) ⟨(i 1).val, hi⟩ (i 1) rfl (i 2)).symm

theorem rows_facts : Cert.On_head_rows.Facts := ⟨by decide, by decide, by decide⟩

/-- The mask keeps the rows below four. -/
theorem row_lt (r : Fin 8) : IntOp.cmpi .slt (BitVec.ofNat 32 r.val) 4#32 = 1#1 → r.val < 4 := by
  revert r
  decide

/-- The mLSTM call returns what the plain step does: the output, the matrix state and the head rows of the other two. -/
theorem algebraic_mlstm : Cert.algebraic_KernelIdeal_ReferenceIdeal_on_head_rows (hKernelIdeal := Cert.KernelIdeal.Gen.facts)
    (hReferenceIdeal := Cert.ReferenceIdeal.Gen.facts) (hOn_head_rows := rows_facts) := by
  intro m g m' g' _ hagree
  refine ⟨fun c => (Cert.KernelIdeal.Gen.dats m 0 c).arrAt 9 Cert.KernelIdeal.cfg0.N, fun c => (Cert.KernelIdeal.Gen.dats m 0 c).arrAt 10 Cert.KernelIdeal.cfg0.N,
    fun c => (Cert.KernelIdeal.Gen.dats m 0 c).arrAt 11 Cert.KernelIdeal.cfg0.N, fun c => (Cert.KernelIdeal.Gen.dats m 0 c).arrAt 12 Cert.KernelIdeal.cfg0.N,
    (θ_run _ _ _).mono (fun r h c => ?_) (Cert.KernelIdeal.Value.run_blocks m g), (θ_run _ _ _).mono (fun r h c => ?_) (Cert.ReferenceIdeal.Value.run m' g')⟩
  · obtain ⟨p0, p1, p2, p3, pr⟩ := h c
    exact ⟨fun i _ => congrFun p0 i, fun i _ => congrFun p1 i, fun i _ => congrFun p2 i, fun i _ => congrFun p3 i, pr⟩
  · obtain ⟨p0, p1, p2, p3, pr⟩ := h c
    obtain ⟨h0, h1, h2, h3, h4, h5, h6, h7, h8⟩ := hagree c
    have q0 := p0.trans (Cert.ReferenceIdeal.Read.val_main_v111_eq _)
    have q1 := p1.trans (Cert.ReferenceIdeal.Read.val_main_v79_eq _)
    have q2 := p2.trans (Cert.ReferenceIdeal.Read.val_main_v100_eq _)
    have q3 := p3.trans (Cert.ReferenceIdeal.Read.val_main_v103_eq _)
    clear p0 p1 p2 p3
    change _ = Cert.ReferenceIdeal.Read.val_main_v111 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) at q0
    change _ = Cert.ReferenceIdeal.Read.val_main_v79 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) at q1
    change _ = Cert.ReferenceIdeal.Read.val_main_v100 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) at q2
    change _ = Cert.ReferenceIdeal.Read.val_main_v103 (F := Ideal) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg7)) at q3
    rw [h0, h1, h2, h3, h4, h5, h6, h7, h8] at q0
    rw [h1, h2, h3, h5, h7] at q1
    rw [h1, h3, h6, h7] at q2
    rw [h3, h7] at q3
    exact ⟨fun i _ => congrFun (q0.trans (mlstm_h m c).symm) i, fun i _ => congrFun (q1.trans (mlstm_c m c).symm) i,
      fun i hi => (congrFun q2 i).trans (mlstm_n m c i (row_lt (i 1) hi)).symm, fun i hi => (congrFun q3 i).trans (mlstm_m m c i (row_lt (i 1) hi)).symm, pr⟩

end Cert.KClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn1
public import proofs.«01_k».proof.Proof.Gen.Ffn1.Skeleton
public import proofs.«01_k».proof.Proof.Gen.Ffn1.Launch
public import proofs.«01_k».proof.Proof.Gen.Ffn1.Points
public import proofs.«01_k».proof.Proof.Gen.Ffn1.Frame
public import proofs.«01_k».proof.Proof.Gen.Ffn1Ideal
public import proofs.«01_k».proof.Proof.Gen.Ffn1Ideal.Skeleton
public import proofs.«01_k».proof.Proof.Gen.Ffn1Ideal.Launch
public import proofs.«01_k».proof.Proof.Gen.Ffn1Ideal.Points
public import proofs.«01_k».proof.Proof.Gen.Ffn1Ideal.Frame
public import proofs.«01_k».proof.Proof.Gen.RefFfn1Ideal
public import proofs.«01_k».proof.Proof.Gen.Ffn1Ideal.Value
public import proofs.«01_k».proof.Proof.Gen.KernelIdeal.Value
public import proofs.«01_k».proof.Proof.Claims
public import proofs.«01_k».proof.Proof.Gen.ReferenceIdeal.Run
public import proofs.«01_k».proof.Proof.Gen.ReferenceIdeal.Read
public import proofs.«01_k».proof.Proof.Gen.RefFfn1Ideal.Run
public import proofs.«01_k».proof.Proof.Gen.RefFfn1Ideal.Read
public import proofs.«01_k».proof.Proof.Gen.Ffn2Ideal.Value
public import proofs.«01_k».proof.Proof.Gen.RefFfn2Ideal.Run
public import proofs.«01_k».proof.Proof.Gen.RefFfn2Ideal.Read
public import proofs.«01_k».proof.Proof.Gen.Ffn2
public import proofs.«01_k».proof.Proof.Gen.Ffn2.Skeleton
public import proofs.«01_k».proof.Proof.Gen.Ffn2.Launch
public import proofs.«01_k».proof.Proof.Gen.Ffn2.Points
public import proofs.«01_k».proof.Proof.Gen.Ffn2.Frame
public import proofs.«01_k».proof.Proof.Gen.Ffn2Ideal
public import proofs.«01_k».proof.Proof.Gen.Ffn2Ideal.Skeleton
public import proofs.«01_k».proof.Proof.Gen.Ffn2Ideal.Launch
public import proofs.«01_k».proof.Proof.Gen.Ffn2Ideal.Points
public import proofs.«01_k».proof.Proof.Gen.Ffn2Ideal.Frame
public import proofs.«01_k».proof.Proof.Gen.RefFfn2Ideal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Ffn1.Gen.facts, Cert.Ffn1Ideal.Gen.facts,
    Cert.RefFfn1Ideal.Gen.facts, Cert.Ffn2.Gen.facts, Cert.Ffn2Ideal.Gen.facts, Cert.RefFfn2Ideal.Gen.facts,
    KClaims.rows_facts,
    fun m g _ => Cert.Kernel.Gen.frame m g, fun m g _ => Cert.KernelIdeal.Gen.frame m g, KClaims.frame_ref_mlstm,
    fun m g _ => Cert.Ffn1.Gen.frame m g, fun m g _ => Cert.Ffn1Ideal.Gen.frame m g, KClaims.frame_ref_ffn1,
    fun m g _ => Cert.Ffn2.Gen.frame m g, fun m g _ => Cert.Ffn2Ideal.Gen.frame m g, KClaims.frame_ref_ffn2,
    KClaims.preserves_mlstm, KClaims.algebraic_mlstm, KClaims.preserves_ffn1, KClaims.algebraic_ffn1, KClaims.preserves_ffn2, KClaims.algebraic_ffn2⟩

end Cert.Proof

end
